-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_labels_in_range_KernelIdeal [hPre_labels_in_range_KernelIdeal : Cert.Pre_labels_in_range_KernelIdeal.Facts] (m : (ℓ : Loc Cert.KernelIdeal.nD Cert.KernelIdeal.τ Cert.KernelIdeal.sig) → Buf (Elt Ideal) ℓ) : Prop :=
  ∀ c : Dev Cert.KernelIdeal.nD,
    (Cert.Pre_labels_in_range_KernelIdeal.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_labels_in_range_ReferenceIdeal [hPre_labels_in_range_ReferenceIdeal : Cert.Pre_labels_in_range_ReferenceIdeal.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_labels_in_range_ReferenceIdeal.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_labels_in_range_KernelIdeal [hKernelIdeal : Cert.KernelIdeal.Facts] [hPre_labels_in_range_KernelIdeal : Cert.Pre_labels_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_labels_in_range_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_labels_in_range_ReferenceIdeal [hReferenceIdeal : Cert.ReferenceIdeal.Facts] [hPre_labels_in_range_ReferenceIdeal : Cert.Pre_labels_in_range_ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_labels_in_range_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_labels_in_range_KernelIdeal [hKernelIdeal : Cert.KernelIdeal.Facts] [hReferenceIdeal : Cert.ReferenceIdeal.Facts] [hPre_labels_in_range_KernelIdeal : Cert.Pre_labels_in_range_KernelIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_labels_in_range_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![512, 4096]⟩ ⟨2, ![512, 8192]⟩ (Layout.meshBlock [2, 2, 2] ![[], [2]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)) →
    ∃ (v0 : Buf (Elt Ideal) (((0 : Dev Cert.ReferenceIdeal.nD).tc : Thread Cert.ReferenceIdeal.nD Cert.ReferenceIdeal.τ).loc Cert.ReferenceIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v26) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_labels_in_range_KernelIdeal : Cert.Pre_labels_in_range_KernelIdeal.Facts) (hPre_labels_in_range_ReferenceIdeal : Cert.Pre_labels_in_range_ReferenceIdeal.Facts),
    quiescent_Kernel (hKernel := hKernel)
    ∧ quiescent_KernelIdeal (hKernelIdeal := hKernelIdeal)
    ∧ quiescent_KernelIdeal_pre_labels_in_range_KernelIdeal (hKernelIdeal := hKernelIdeal) (hPre_labels_in_range_KernelIdeal := hPre_labels_in_range_KernelIdeal)
    ∧ quiescent_ReferenceIdeal (hReferenceIdeal := hReferenceIdeal)
    ∧ quiescent_ReferenceIdeal_pre_labels_in_range_ReferenceIdeal (hReferenceIdeal := hReferenceIdeal) (hPre_labels_in_range_ReferenceIdeal := hPre_labels_in_range_ReferenceIdeal)
    ∧ preserves_Kernel_KernelIdeal
    ∧ algebraic_KernelIdeal_ReferenceIdeal_pre_labels_in_range_KernelIdeal (hKernelIdeal := hKernelIdeal) (hReferenceIdeal := hReferenceIdeal) (hPre_labels_in_range_KernelIdeal := hPre_labels_in_range_KernelIdeal)
-- ==== Pre_labels_in_range_KernelIdeal.lean ====
abbrev S256x512 : Shape := ⟨2, ![256, 512]⟩
abbrev S512x4096 : Shape := ⟨2, ![512, 4096]⟩
abbrev S256 : Shape := ⟨1, ![256]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S256x512 .bf16) (main_arg1 : FVec F S512x4096 .bf16) (main_arg2 : IVec S256 32) : IVec S256 1 :=
  let main_c : IVec S_ 32 := constantI S_ 32 0#32
  let main_v0 : IVec S256 32 := broadcastInDim S256 ![] bcast_S_S256 main_c
  let main_v1 : IVec S256 1 := cmpi .sge main_arg2 main_v0
  let main_c_0 : IVec S_ 32 := constantI S_ 32 8192#32
  let main_v2 : IVec S256 32 := broadcastInDim S256 ![] bcast_S_S256 main_c_0
  let main_v3 : IVec S256 1 := cmpi .slt main_arg2 main_v2
  let main_v4 : IVec S256 1 := andi main_v1 main_v3
  main_v4
-- ==== Pre_labels_in_range_ReferenceIdeal.lean ====
abbrev S256x512 : Shape := ⟨2, ![256, 512]⟩
abbrev S512x8192 : Shape := ⟨2, ![512, 8192]⟩
abbrev S256 : Shape := ⟨1, ![256]⟩
abbrev S_ : Shape := ⟨0, ![]⟩

class Facts : Prop where
  bcast_S_S256 : S_.BroadcastsInDim S256 (![] : Fin 0 → Fin S256.rank)

variable [Facts]

def fn {F : FTy → Type} [FloatOps F] (main_arg0 : FVec F S256x512 .bf16) (main_arg1 : FVec F S512x8192 .bf16) (main_arg2 : IVec S256 32) : IVec S256 1 :=
  let main_c : IVec S_ 32 := constantI S_ 32 0#32
  let main_v0 : IVec S256 32 := broadcastInDim S256 ![] bcast_S_S256 main_c
  let main_v1 : IVec S256 1 := cmpi .sge main_arg2 main_v0
  let main_c_0 : IVec S_ 32 := constantI S_ 32 8192#32
  let main_v2 : IVec S256 32 := broadcastInDim S256 ![] bcast_S_S256 main_c_0
  let main_v3 : IVec S256 1 := cmpi .slt main_arg2 main_v2
  let main_v4 : IVec S256 1 := andi main_v1 main_v3
  main_v4
-- ==== Kernel.lean ====
abbrev S256x512 : Shape := ⟨2, ![256, 512]⟩
abbrev S512x4096 : Shape := ⟨2, ![512, 4096]⟩
abbrev S256 : Shape := ⟨1, ![256]⟩
abbrev S2x3x256 : Shape := ⟨3, ![2, 3, 256]⟩
abbrev S_ : Shape := ⟨0, ![]⟩
abbrev S256x4096 : Shape := ⟨2, ![256, 4096]⟩
abbrev S256x1 : Shape := ⟨2, ![256, 1]⟩
abbrev S1x1x256 : Shape := ⟨3, ![1, 1, 256]⟩
abbrev S1x3x256 : Shape := ⟨3, ![1, 3, 256]⟩
abbrev S3x256 : Shape := ⟨2, ![3, 256]⟩

abbrev nBuf : Space → Nat
  | .hbm => 4
  | .vmem => 5
  | .smem => 0
  | _ => 0

abbrev bufTy : (tb : Table) → Fin (tcTables nBuf tb) → BufTy
  | .hbm, ⟨0, _⟩ => ⟨S256x512, .bf16⟩
  | .hbm, ⟨1, _⟩ => ⟨S512x4096, .bf16⟩
  | .hbm, ⟨2, _⟩ => ⟨S256, .i32⟩
  | .hbm, ⟨3, _⟩ => ⟨S256, .f32⟩
  | .local _ .vmem, ⟨0, _⟩ => ⟨S256x512, .bf16⟩
  | .local _ .vmem, ⟨1, _⟩ => ⟨S512x4096, .bf16⟩
  | .local _ .vmem, ⟨2, _⟩ => ⟨S256, .i32⟩
  | .local _ .vmem, ⟨3, _⟩ => ⟨S256, .f32⟩
  | .local _ .vmem, ⟨4, _⟩ => ⟨S2x3x256, .f32⟩
  | _, _ => ⟨S256x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 1 → Bool
  | ⟨0, _⟩ => false
  | _ => false

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  (ofTc nBuf bufTy 1 6 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_scratch0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev barrier0 : Sem sig := 0

abbrev nD : Nat := 8
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_5 : BitVec 32 := 4#32
  let v11 : BitVec 32 := Scalar.muli v2 c4_i32_5
  let v12 : BitVec 32 := Scalar.addi c0_i32 v11
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_6 : BitVec 32 := 2#32
  let v13 : BitVec 32 := Scalar.muli v5 c2_i32_6
  let v14 : BitVec 32 := Scalar.addi v12 v13
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_7 : BitVec 32 := 1#32
  let v15 : BitVec 32 := Scalar.muli v9 c1_i32_7
  let v16 : BitVec 32 := Scalar.addi v14 v15
  v16.toNat
def k0_dev2 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_26 : BitVec 32 := 4#32
  let v49 : BitVec 32 := Scalar.muli v2 c4_i32_26
  let v50 : BitVec 32 := Scalar.addi c0_i32_27 v49
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_28 : BitVec 32 := 2#32
  let v51 : BitVec 32 := Scalar.muli v5 c2_i32_28
  let v52 : BitVec 32 := Scalar.addi v50 v51
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_29 : BitVec 32 := 1#32
  let v53 : BitVec 32 := Scalar.muli v9 c1_i32_29
  let v54 : BitVec 32 := Scalar.addi v52 v53
  v54.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x4096 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== ReferenceIdeal.lean ====
abbrev S256x512 : Shape := ⟨2, ![256, 512]⟩
abbrev S512x8192 : Shape := ⟨2, ![512, 8192]⟩
abbrev S256 : Shape := ⟨1, ![256]⟩
abbrev S256x8192 : Shape := ⟨2, ![256, 8192]⟩
abbrev S_ : Shape := ⟨0, ![]⟩
abbrev S256x1 : Shape := ⟨2, ![256, 1]⟩
abbrev S256x2 : Shape := ⟨2, ![256, 2]⟩

abbrev nBuf : Space → Nat
  | .hbm => 36
  | .vmem => 0
  | .smem => 0
  | _ => 0

abbrev bufTy : (tb : Table) → Fin (tcTables nBuf tb) → BufTy
  | .hbm, ⟨0, _⟩ => ⟨S256x512, .bf16⟩
  | .hbm, ⟨1, _⟩ => ⟨S512x8192, .bf16⟩
  | .hbm, ⟨2, _⟩ => ⟨S256, .i32⟩
  | .hbm, ⟨3, _⟩ => ⟨S256x8192, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S256x8192, .f32⟩
  | .hbm, ⟨8, _⟩ => ⟨S256x8192, .f32⟩
  | .hbm, ⟨9, _⟩ => ⟨S256x8192, .f32⟩
  | .hbm, ⟨10, _⟩ => ⟨S_, .f32⟩
  | .hbm, ⟨11, _⟩ => ⟨S256, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256, .f32⟩
  | .hbm, ⟨16, _⟩ => ⟨S256, .i32⟩
  | .hbm, ⟨17, _⟩ => ⟨S_, .i32⟩
  | .hbm, ⟨18, _⟩ => ⟨S256, .i32⟩
  | .hbm, ⟨19, _⟩ => ⟨S256, .i1⟩
  | .hbm, ⟨20, _⟩ => ⟨S_, .i32⟩
  | .hbm, ⟨21, _⟩ => ⟨S256, .i32⟩
  | .hbm, ⟨22, _⟩ => ⟨S256, .i32⟩
  | .hbm, ⟨23, _⟩ => ⟨S256, .i32⟩
  | .hbm, ⟨24, _⟩ => ⟨S_, .i32⟩
  | .hbm, ⟨25, _⟩ => ⟨S256, .i32⟩
  | .hbm, ⟨26, _⟩ => ⟨S256, .i1⟩
  | .hbm, ⟨27, _⟩ => ⟨S_, .i32⟩
  | .hbm, ⟨28, _⟩ => ⟨S256, .i32⟩
  | .hbm, ⟨29, _⟩ => ⟨S256, .i32⟩
  | .hbm, ⟨30, _⟩ => ⟨S256, .i32⟩
  | .hbm, ⟨31, _⟩ => ⟨S256x1, .i32⟩
  | .hbm, ⟨32, _⟩ => ⟨S256x1, .i32⟩
  | .hbm, ⟨33, _⟩ => ⟨S256x2, .i32⟩
  | .hbm, ⟨34, _⟩ => ⟨S256, .f32⟩
  | .hbm, ⟨35, _⟩ => ⟨S256, .f32⟩
  | _, _ => ⟨S256x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst_0 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c : Ref sig .tc := ⟨.hbm, 17, rfl⟩
abbrev main_v12 : Ref sig .tc := ⟨.hbm, 18, rfl⟩
abbrev main_v13 : Ref sig .tc := ⟨.hbm, 19, rfl⟩
abbrev main_c_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_c_2 : Ref sig .tc := ⟨.hbm, 24, rfl⟩
abbrev main_v17 : Ref sig .tc := ⟨.hbm, 25, rfl⟩
abbrev main_v18 : Ref sig .tc := ⟨.hbm, 26, rfl⟩
abbrev main_c_3 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Proof.KernelIdealProtocol.lean ====
/-
# The protocol of the kernel

Eight devices, paired along the last axis of the mesh. Device `c` swaps three rows of 256 numbers with its partner:
it signals the partner's barrier semaphore, waits for the partner's signal on its own, writes the row maxima, the row
sums and the picked logits into the first half of its scratch buffer, copies that half into the second half of the
partner's scratch buffer, waits for the copy to have left and for the partner's to have arrived, and combines both.

This module states what that exchange hands around: the three semaphore cells of a device (barrier, send, receive),
one payment on each, what each payment carries, what every device owes at launch, and the order of waiting.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic

@[expose] public section

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Ghost state: one copy of the rounds algebra for the pipeline, one for the swap -/

abbrev GU : Type := UR sig nD τ × UR sig nD τ

local notation "𝕄" => MT nD τ sig Unit (Elt F) ℕ GU ℕ

abbrev inPipe : Emb (UR sig nD τ) (MT nD τ sig Unit (Elt F) ℕ GU ℕ) := embL
abbrev inSwap : Emb (UR sig nD τ) (MT nD τ sig Unit (Elt F) ℕ GU ℕ) := embR

/-! ## Partners -/

/-- The partner of device `c`: the same place on the first two mesh axes, the other one on the last. -/
def mate (c : Dev nD) : Dev nD :=
  ⟨(4 * (c.val / 4) + 2 * ((c.val / 2) % 2) + 1) - (c.val % 2), by have := c.isLt; revert this; generalize c.val = v; decide +revert⟩

theorem mate_mate (c : Dev nD) : mate (mate c) = c := by revert c; decide

/-- A device is the partner of `c` exactly when `c` is its partner. -/
theorem mate_eq_iff {c d : Dev nD} : Iff (mate d = c) (d = mate c) :=
  ⟨fun h => by rw [← h, mate_mate], fun h => by rw [h, mate_mate]⟩

/-- Taking partners permutes the devices. -/
def mates : Dev nD ≃ Dev nD := ⟨mate, mate, mate_mate, mate_mate⟩

/-- The device the kernel signals is the partner, -/
theorem signal_dev (c : Dev nD) : (⟨k0_dev1 c, k0_dev1_lt c⟩ : Dev nD) = mate c := Fin.ext (k0_dev1_eq c)
/-- and so is the device it copies to. -/
theorem copy_dev (c : Dev nD) : (⟨k0_dev2 c, k0_dev2_lt c⟩ : Dev nD) = mate c := Fin.ext (k0_dev2_eq c)

/-! ## The scratch buffer and its two halves -/

/-- The scratch buffer, whole. -/
abbrev scrM : Memref sig .tc .vmem S2x3x256 .f32 := Memref.whole cc0_scratch0
/-- The first half: what a device sends. -/
abbrev outM : Memref sig .tc .vmem S3x256 .f32 :=
  (scrM.slice (Rect.unit (s := S2x3x256) ![0, 0, 0] S1x3x256.size inb_S2x3x256_S1x3x256_0_0_0) (fun _ => rfl)).squeeze S3x256 squeezes_S1x3x256_S3x256
/-- The second half: where the partner's rows arrive. -/
abbrev inM : Memref sig .tc .vmem S3x256 .f32 :=
  (scrM.slice (Rect.unit (s := S2x3x256) ![1, 0, 0] S1x3x256.size inb_S2x3x256_S1x3x256_1_0_0) (fun _ => rfl)).squeeze S3x256 squeezes_S1x3x256_S3x256

/-- The contents type of the scratch buffer. -/
abbrev Scr (F : FTy → Type) : Type := (cc0_scratch0 : Ref sig .tc).ty.Contents (Elt F)

theorem mem_out (i : S2x3x256.Idx) : Iff (i ∈ outM.view.set) ((i 0).val = 0) := by
  rw [show outM.view.set = (Rect.unit (s := S2x3x256) ![0, 0, 0] S1x3x256.size inb_S2x3x256_S1x3x256_0_0_0).set from
    (View.set_reshape _ _).trans (View.set_slice_whole _ _), Rect.mem_set_unit]
  constructor
  · intro h; have := (h 0).2; simp at this; omega
  · intro h a; fin_cases a
    · simp [h]
    · have := (i 1).isLt; simp; exact this
    · have := (i 2).isLt; simp; exact this

theorem mem_in (i : S2x3x256.Idx) : Iff (i ∈ inM.view.set) ((i 0).val = 1) := by
  rw [show inM.view.set = (Rect.unit (s := S2x3x256) ![1, 0, 0] S1x3x256.size inb_S2x3x256_S1x3x256_1_0_0).set from
    (View.set_reshape _ _).trans (View.set_slice_whole _ _), Rect.mem_set_unit]
  constructor
  · intro h; have := (h 0).1; have := (h 0).2; simp at *; omega
  · intro h a; fin_cases a
    · simp [h]
    · have := (i 1).isLt; simp; exact this
    · have := (i 2).isLt; simp; exact this

/-- The halves have no element in common -/
theorem halves_disjoint : Disjoint outM.view.set inM.view.set :=
  Finset.disjoint_left.mpr fun i h h' => by rw [mem_out] at h; rw [mem_in] at h'; omega

/-- and are the whole buffer. -/
theorem halves_union : outM.view.set ∪ inM.view.set = (Finset.univ : Finset S2x3x256.Idx) := by
  refine Finset.eq_univ_iff_forall.mpr fun (i : S2x3x256.Idx) => ?_
  have h : (i 0).val < 2 := (i 0).isLt
  have h' : (i 0).val = 0 ∨ (i 0).val = 1 := by omega
  exact Finset.mem_union.mpr (h'.imp (mem_out i).mpr (mem_in i).mpr)

/-! ### Rows -/

/-- Where column `i 2` lies in a row taken by itself. -/
def col (i : S2x3x256.Idx) : S1x1x256.Idx := fun
  | 0 => ⟨0, Nat.one_pos⟩
  | 1 => ⟨0, Nat.one_pos⟩
  | 2 => i 2

/-- Contents of the scratch buffer with the rows `a`, `b`, `d` in either half. -/
def rows (a b d : Vec F S1x1x256 .f32) : Scr F := fun i =>
  if (i 1).val = 0 then a (col i) else if (i 1).val = 1 then b (col i) else d (col i)

/-- Row `k` of half `j`, as the kernel's loads and stores name it. -/
abbrev rowR (j k : ℕ) (inb : ∀ a, (![j, k, 0] : Fin 3 → ℕ) a + S1x1x256.size a ≤ S2x3x256.size a) : Rect S2x3x256 :=
  Rect.unit (s := S2x3x256) ![j, k, 0] S1x1x256.size inb

theorem mem_row {j k : ℕ} {inb} (i : S2x3x256.Idx) :
    Iff (i ∈ (scrM.access (rowR j k inb)).setOn Finset.univ) ((i 0).val = j ∧ (i 1).val = k) := by
  rw [View.setOn_univ, show (scrM.access (rowR j k inb)).set = (rowR j k inb).set from View.set_slice_whole _ _, Rect.mem_set_unit]
  constructor
  · intro h
    have h0 := h 0; have h1 := h 1
    simp at h0 h1; omega
  · rintro ⟨h0, h1⟩ a; fin_cases a
    · simp [h0]
    · simp [h1]
    · have := (i 2).isLt; simp; exact this

/-- An index of row `k` of half `j` is the place of its column. -/
theorem row_emb {j k : ℕ} {inb} (i : S2x3x256.Idx) (h0 : (i 0).val = j) (h1 : (i 1).val = k) :
    (scrM.access (rowR j k inb)).emb (col i) = i := by
  funext a
  refine Fin.ext ?_
  show ((rowR j k inb).emb (col i) a).val = _
  rw [Rect.emb_apply]
  fin_cases a
  · simp [h0, col]
  · simp [h1, col]
  · simp [col]; rfl

/-- A store of row `k` of half `j` changes that row to what is stored -/
theorem write_row_hit {j k : ℕ} {inb} (f : Scr F) (w : Vec F S1x1x256 .f32) (i : S2x3x256.Idx)
    (h0 : (i 0).val = j) (h1 : (i 1).val = k) :
    (scrM.access (rowR j k inb)).write (Elt F) f w Finset.univ i = w (col i) := by
  have h := (scrM.access (rowR j k inb)).write_emb_of_mem (Val := Elt F) f w (Finset.mem_univ (col i))
  rw [row_emb i h0 h1] at h
  exact h

/-- and nothing else. -/
theorem write_row_miss {j k : ℕ} {inb} (f : Scr F) (w : Vec F S1x1x256 .f32) (i : S2x3x256.Idx)
    (h : ¬ ((i 0).val = j ∧ (i 1).val = k)) :
    (scrM.access (rowR j k inb)).write (Elt F) f w Finset.univ i = f i :=
  (scrM.access (rowR j k inb)).write_of_not_mem (Val := Elt F) f w Finset.univ (fun h' => h ((mem_row i).mp h'))

/-- The three stores of the kernel leave the first half at the rows stored. -/
theorem stores_rows (f : Scr F) (a b d : Vec F S1x1x256 .f32) (i : S2x3x256.Idx) (hi : i ∈ outM.view.set) :
    (scrM.access (rowR 0 2 inb_S2x3x256_S1x1x256_0_2_0)).write (Elt F)
      ((scrM.access (rowR 0 1 inb_S2x3x256_S1x1x256_0_1_0)).write (Elt F)
        ((scrM.access (rowR 0 0 inb_S2x3x256_S1x1x256_0_0_0)).write (Elt F) f a Finset.univ) b Finset.univ) d Finset.univ i
      = rows a b d i := by
  rw [mem_out] at hi
  have h3 : (i 1).val < 3 := (i 1).isLt
  unfold rows
  by_cases h2 : (i 1).val = 2
  · rw [write_row_hit _ _ _ hi h2, if_neg (by omega), if_neg (by omega)]
  rw [write_row_miss _ _ _ (fun h => h2 h.2)]
  by_cases h1 : (i 1).val = 1
  · rw [write_row_hit _ _ _ hi h1, if_neg (by omega), if_pos h1]
  rw [write_row_miss _ _ _ (fun h => h1 h.2)]
  have h0 : (i 1).val = 0 := by omega
  rw [write_row_hit _ _ _ hi h0, if_pos h0]

/-- What is copied from one half into the other: the rows, wherever they come to lie. -/
theorem copy_rows (g : Scr F) (a b d : Vec F S1x1x256 .f32) (i : S2x3x256.Idx) (hi : i ∈ inM.view.set) :
    inM.view.write (Elt F) g (outM.view.read (Elt F) (rows a b d)) Finset.univ i = rows a b d i := by
  obtain ⟨x, -, rfl⟩ := Finset.mem_map.mp hi
  refine (inM.view.write_emb_of_mem (Val := Elt F) g _ (Finset.mem_univ x)).trans ?_
  show rows a b d (outM.view.emb x) = rows a b d (inM.view.emb x)
  have e1 : (outM.view.emb x : S2x3x256.Idx) 1 = (inM.view.emb x : S2x3x256.Idx) 1 := Fin.ext (by
    show ((Rect.unit (s := S2x3x256) ![0, 0, 0] S1x3x256.size inb_S2x3x256_S1x3x256_0_0_0).emb _ 1).val = ((Rect.unit (s := S2x3x256) ![1, 0, 0] S1x3x256.size inb_S2x3x256_S1x3x256_1_0_0).emb _ 1).val
    rw [Rect.emb_apply, Rect.emb_apply]; rfl)
  have e2 : (outM.view.emb x : S2x3x256.Idx) 2 = (inM.view.emb x : S2x3x256.Idx) 2 := Fin.ext (by
    show ((Rect.unit (s := S2x3x256) ![0, 0, 0] S1x3x256.size inb_S2x3x256_S1x3x256_0_0_0).emb _ 2).val = ((Rect.unit (s := S2x3x256) ![1, 0, 0] S1x3x256.size inb_S2x3x256_S1x3x256_1_0_0).emb _ 2).val
    rw [Rect.emb_apply, Rect.emb_apply]; rfl)
  have e3 : col (outM.view.emb x) = col (inM.view.emb x) := funext fun a => by
    fin_cases a
    · rfl
    · rfl
    · exact e2
  unfold rows
  rw [e1, e3]

/-- A load of row `k` of a half reads the row. -/
theorem read_row {j k : ℕ} {inb} (a b d : Vec F S1x1x256 .f32) :
    scrM.view.readAt (Elt F) (rowR j k inb).toLoadRect (rows a b d) = if k = 0 then a else if k = 1 then b else d := by
  funext x
  show rows a b d ((rowR j k inb).emb x) = _
  have h1 : ((rowR j k inb).emb x 1).val = k := by
    rw [Rect.emb_apply]
    have : (x 1).val < 1 := (x 1).isLt
    simp; omega
  have hc : col ((rowR j k inb).emb x) = x := funext fun a => by
    refine Fin.ext ?_
    fin_cases a
    · have : (x 0).val < 1 := (x 0).isLt
      show 0 = (x 0).val; omega
    · have : (x 1).val < 1 := (x 1).isLt
      show 0 = (x 1).val; omega
    · show ((rowR j k inb).emb x 2).val = _
      rw [Rect.emb_apply]; simp
  unfold rows
  rw [h1, hc]
  split_ifs <;> rfl

/-! ## The cells -/

/-- The runtime's barrier semaphore, the semaphore the copy completes on at the sender and the one at the receiver. -/
abbrev barS : Sem sig := (SemArray.scalar (sig.barrier 0 rfl) : Sems sig S_).sem
abbrev sendS : DmaSem sig := (cc0_scratch1 : DmaSems sig S_).sem
abbrev recvS : DmaSem sig := (cc0_scratch2 : DmaSems sig S_).sem

/-- A device's three cells, numbered: barrier 0, send 1, receive 2. -/
abbrev csem : Fin 3 → SemLoc sig := fun | 0 => .reg barS | 1 => .dma sendS | 2 => .dma recvS
/-- The two of them the launch itself allocates. -/
abbrev osem : Fin 2 → SemLoc sig := fun | 0 => .dma sendS | 1 => .dma recvS
/-- Cell `k` of device `c`. -/
abbrev cell (c : Dev nD) (k : Fin 3) : GSem nD τ sig := ((c : Thread nD τ), csem k)

theorem csem_injective : Function.Injective csem := by
  intro k k' h
  fin_cases k <;> fin_cases k' <;> first | rfl | exact absurd h (by decide)

/-- The number of a semaphore among the three. -/
def numOf (s : SemLoc sig) : Option (Fin 3) :=
  if s = csem 0 then some 0 else if s = csem 1 then some 1 else if s = csem 2 then some 2 else none

theorem numOf_csem (k : Fin 3) : numOf (csem k) = some k := by fin_cases k <;> decide

/-- What the copy of one half credits. -/
abbrev N : ℕ := inM.view.dmaCredit
theorem N_pos : 0 < N := View.dmaCredit_pos _ (by decide)

/-- The units cell `k` takes in: one on the barrier, the copy's credit on the other two. -/
def units (k : Fin 3) : ℕ := if k = 0 then 1 else N
theorem units_bar : units 0 = 1 := if_pos rfl
theorem units_send : units 1 = N := if_neg (by decide)
theorem units_recv : units 2 = N := if_neg (by decide)
theorem units_pos (k : Fin 3) : 0 < units k := by
  unfold units; split
  · exact Nat.one_pos
  · exact N_pos

/-! ## Contents -/

variable (m : (ℓ : Loc nD τ sig) → Buf (Elt F) ℓ) (ρ : Dev nD → PrngReg)

/-- The state at launch: any contents, every counter at zero. -/
def s₀ : MemSt nD τ sig (Elt F) := ⟨m, fun _ => 0, ρ⟩

/-- Device `c`'s activations, weight columns and labels, as they are fetched for the kernel. -/
def xOf (c : Dev nD) : (cc0_stg0_0 : Ref sig .tc).ty.Contents (Elt F) :=
  (win0_0.blk (0 : Fin 1)).view.read (Elt F) ((s₀ m ρ).mem ((c : Thread nD τ).loc main_arg0))
def wOf (c : Dev nD) : (cc0_stg1_0 : Ref sig .tc).ty.Contents (Elt F) :=
  (win0_1.blk (0 : Fin 1)).view.read (Elt F) ((s₀ m ρ).mem ((c : Thread nD τ).loc main_arg1))
def labOf (c : Dev nD) : (cc0_stg2_0 : Ref sig .tc).ty.Contents (Elt F) :=
  (win0_2.blk (0 : Fin 1)).view.read (Elt F) ((s₀ m ρ).mem ((c : Thread nD τ).loc main_arg2))

/-- The picked logits of a device: where the label falls in its columns, the logit there, and zero elsewhere, summed. -/
def pickOf (c : Dev nD) (x : Vec F S256x512 .bf16) (w : Vec F S512x4096 .bf16) (lab : Vec F S256 .i32) : FVec F S256 .f32 :=
  k0_pay6 (k0_pay2 x w) (k0_pay5 c lab) (iota .tc S256x4096 32 [1] iota_S256x4096_d1_w32)

/-- The three rows device `c` computes from its data: maxima, sums of exponentials, picked logits. -/
def mine (c : Dev nD) : Scr F :=
  rows (k0_pay7 (k0_pay3 (xOf m ρ c) (wOf m ρ c))) (k0_pay8 (k0_pay4 (xOf m ρ c) (wOf m ρ c)))
    (k0_pay9 (k0_pay2 (xOf m ρ c) (wOf m ρ c)) (k0_pay5 c (labOf m ρ c)) (iota .tc S256x4096 32 [1] iota_S256x4096_d1_w32))

/-- The kernel's result on device `c`, from its own three rows and its partner's. -/
def outOf (c : Dev nD) : (cc0_stg3_0 : Ref sig .tc).ty.Contents (Elt F) :=
  k0_pay1 (k0_pay3 (xOf m ρ c) (wOf m ρ c)) (k0_pay4 (xOf m ρ c) (wOf m ρ c)) (pickOf c (xOf m ρ c) (wOf m ρ c) (labOf m ρ c))
    (k0_pay7 (k0_pay3 (xOf m ρ (mate c)) (wOf m ρ (mate c)))) (k0_pay8 (k0_pay4 (xOf m ρ (mate c)) (wOf m ρ (mate c))))
    (k0_pay9 (k0_pay2 (xOf m ρ (mate c)) (wOf m ρ (mate c))) (k0_pay5 (mate c) (labOf m ρ (mate c)))
      (iota .tc S256x4096 32 [1] iota_S256x4096_d1_w32))

/-- Holding the first half of device `c`'s scratch buffer, at contents `f` -/
def outPts (c : Dev nD) (f : Scr F) : sProp 𝕄 := outM.view.loc (c : Thread nD τ) ↦[outM.view.set]{fullShare} f
/-- and the second. -/
def inPts (c : Dev nD) (f : Scr F) : sProp 𝕄 := inM.view.loc (c : Thread nD τ) ↦[inM.view.set]{fullShare} f

omit [FloatOps F] in
instance outPts_storable (c : Dev nD) (f : Scr F) : BI.Storable (upEmb : UEmb _ 𝕄) (outPts c f) := by unfold outPts; infer_instance
omit [FloatOps F] in
instance inPts_storable (c : Dev nD) (f : Scr F) : BI.Storable (upEmb : UEmb _ 𝕄) (inPts c f) := by unfold inPts; infer_instance

omit [FloatOps F] in
/-- The buffer splits into its halves -/
theorem scr_split (c : Dev nD) (f : Scr F) :
    (((c : Thread nD τ).loc cc0_scratch0) ↦{fullShare} f : sProp 𝕄) ⊢ iprop(outPts c f ∗ inPts c f) := by
  have h := (pointsTo_union (Ix := Unit) (Name := ℕ) (U := GU) (Lvl := ℕ) (ℓ := (c : Thread nD τ).loc cc0_scratch0) (q := fullShare) (f := f) halves_disjoint).1
  rw [halves_union] at h
  exact h

omit [FloatOps F] in
/-- and the halves make up the buffer. -/
theorem scr_join (c : Dev nD) (f g : Scr F) :
    iprop(outPts c f ∗ inPts c g) ⊢ (iprop(∃ h : Buf (Elt F) ((c : Thread nD τ).loc cc0_scratch0), ((c : Thread nD τ).loc cc0_scratch0) ↦{fullShare} h) : sProp 𝕄) := by
  have h := pointsTo_join (Ix := Unit) (Name := ℕ) (U := GU) (Lvl := ℕ) (ℓ := (c : Thread nD τ).loc cc0_scratch0) (q := fullShare) (f := f) (g := g) halves_disjoint
  rw [halves_union] at h
  have h' : iprop(outPts c f ∗ inPts c g) ⊢ (((c : Thread nD τ).loc cc0_scratch0) ↦{fullShare} (inM.view.set.piecewise g f) : sProp 𝕄) := h
  iintro H
  ihave H := h' $$ H
  iexists _; iexact H

omit [FloatOps F] in
/-- What a half holds matters on that half only. -/
theorem outPts_congr (c : Dev nD) {f g : Scr F} (h : ∀ i ∈ outM.view.set, f i = g i) : (outPts c f : sProp 𝕄) = outPts c g := pointsTo_congr h
omit [FloatOps F] in
theorem inPts_congr (c : Dev nD) {f g : Scr F} (h : ∀ i ∈ inM.view.set, f i = g i) : (inPts c f : sProp 𝕄) = inPts c g := pointsTo_congr h

/-! ## The payments -/

/-- What the one payment on cell `k` of device `c` carries. On the barrier: the second half of the partner's scratch
    buffer, and that the partner's receive cell is ready for a payment. On the send cell: the first half of `c`'s own
    buffer back. On the receive cell: the second half of `c`'s buffer with the partner's rows in it. -/
def carried (c : Dev nD) (k : Fin 3) : sProp 𝕄 :=
  match k with
  | 0 => iprop((∃ f, inPts (mate c) f) ∗ reached inSwap (cell (mate c) 2) 0)
  | 1 => outPts c (mine m ρ c)
  | 2 => inPts c (mine m ρ (mate c))

instance carried_storable (c : Dev nD) (k : Fin 3) : BI.Storable (upEmb : UEmb _ 𝕄) (carried m ρ c k) := by
  match k with
  | 0 => unfold carried; infer_instance
  | 1 => unfold carried; infer_instance
  | 2 => unfold carried; infer_instance

/-- One payment on each of the three cells of every device, and then no more. -/
def plan : Rounds.Schedule (GSem nD τ sig) Unit 𝕄 where
  duties g r := if r = 0 ∧ g.1.2 = .tc ∧ (numOf g.2).isSome then {()} else ∅
  unitless _ := False
  amount g _ _ := (numOf g.2).elim 1 units
  payload g _ _ := (numOf g.2).elim iprop(emp) (carried m ρ g.1.1)
  amount_pos g _ _ _ := by
    cases numOf g.2 with
    | none => exact Nat.one_pos
    | some k => exact units_pos k

instance plan_storable (g : GSem nD τ sig) (r : ℕ) (d : Unit) : BI.Storable (upEmb : UEmb _ 𝕄) ((plan (F := F) m ρ).payload g r d) := by
  show BI.Storable upEmb ((numOf g.2).elim iprop(emp) (carried m ρ g.1.1))
  cases numOf g.2 with
  | none => exact (inferInstance : BI.Storable upEmb (iprop(emp) : sProp 𝕄))
  | some k => exact carried_storable m ρ g.1.1 k

theorem plan_duties (c : Dev nD) (k : Fin 3) : (plan (F := F) m ρ).duties (cell c k) 0 = {()} :=
  if_pos ⟨rfl, rfl, by rw [numOf_csem]; rfl⟩
theorem plan_over (g : GSem nD τ sig) : ∀ r, 1 ≤ r → (plan (F := F) m ρ).duties g r = ∅ :=
  fun r hr => if_neg fun h => by omega
theorem plan_amount (c : Dev nD) (k : Fin 3) (u : Unit) : (plan (F := F) m ρ).amount (cell c k) 0 u = units k := by
  show (numOf (csem k)).elim 1 units = _; rw [numOf_csem]; rfl
theorem plan_payload (c : Dev nD) (k : Fin 3) (u : Unit) : (plan (F := F) m ρ).payload (cell c k) 0 u = carried m ρ c k := by
  show (numOf (csem k)).elim iprop(emp) (carried m ρ c) = _; rw [numOf_csem]; rfl
theorem plan_expect (c : Dev nD) (k : Fin 3) : (plan (F := F) m ρ).expect (cell c k) 0 = units k := by
  unfold Schedule.expect Schedule.amountOf; rw [plan_duties, Finset.sum_singleton, plan_amount]
/-- All a wait on the cell can still take is what its payment carries. -/
theorem plan_rest (c : Dev nD) (k : Fin 3) :
    bigSep ((plan (F := F) m ρ).duties (cell c k) 0 \ ∅) (fun u => (plan (F := F) m ρ).payload (cell c k) 0 u) = carried m ρ c k := by
  rw [Finset.sdiff_empty, plan_duties, bigSep_singleton, plan_payload]

/-! ## Debts and levels -/

/-- At launch device `c` owes its partner the copy's credit and one barrier unit. -/
def debt (c : Dev nD) : CellTallies nD τ sig Unit := tallyAt (cell (mate c) 2) () N + tallyAt (cell (mate c) 0) () 1

/-- Every cell of a tensor core has a level: -/
def L (g : GSem nD τ sig) : Finset Unit := if g.1.2 = .tc then {()} else ∅
/-- barrier cells 1, receive cells 2, all others 0. -/
def lv (g : GSem nD τ sig) (_ : Unit) : ℕ := if g.2 = csem 0 then 1 else if g.2 = csem 2 then 2 else 0

theorem L_none (g : GSem nD τ sig) (h : g.1.2 ≠ .tc) : L g = ∅ := if_neg h
theorem L_cell (c : Dev nD) (s : SemLoc sig) : () ∈ L ((c : Thread nD τ), s) := by
  rw [show L ((c : Thread nD τ), s) = {()} from if_pos rfl]; exact Finset.mem_singleton_self _

theorem debt_at {c : Dev nD} {g : GSem nD τ sig} {u : Unit} (h : 0 < debt c g u) : g = cell (mate c) 2 ∨ g = cell (mate c) 0 := by
  by_contra hn
  rw [not_or] at hn
  unfold debt at h
  rw [Pi.add_apply, Finsupp.add_apply, tallyAt_apply, tallyAt_apply, if_neg (fun h' => hn.1 h'.1), if_neg (fun h' => hn.2 h'.1)] at h
  exact absurd h (Nat.lt_irrefl 0)

omit [FloatOps F] in
/-- With the whole debt open, or none, a device may wait for the fetches and write-backs around the kernel. -/
theorem wait_stage (c : Dev nD) (q : DmaSem sig) (h2 : SemLoc.dma q ≠ csem 2) (O : CellTallies nD τ sig Unit) (hO : O = debt c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp]; exact L_cell c _)
      (fun g u hg => by rcases debt_at hg with rfl | rfl <;> exact L_cell _ _)
      (fun p hp => by
        rw [Finset.mem_singleton.mp hp]
        show (if SemLoc.dma q = csem 0 then 1 else if SemLoc.dma q = csem 2 then 2 else 0) ≤ 0
        rw [if_neg (fun h => by cases h), if_neg h2])
      (fun g u hg => by
        rcases debt_at hg with rfl | rfl
        · show 0 < lv (cell (mate c) 2) u; exact (by decide : 0 < if csem 2 = csem 0 then 1 else if csem 2 = csem 2 then 2 else 0)
        · show 0 < lv (cell (mate c) 0) u; exact (by decide : 0 < if csem 0 = csem 0 then 1 else if csem 0 = csem 2 then 2 else 0))
  · rw [MayWait_zero]; iintro -; iempintro

omit [FloatOps F] in
/-- With the copy's credit still owed, it may wait on its barrier cell. -/
theorem wait_barrier (c : Dev nD) :
    (levAts L lv : sProp 𝕄) ⊢ MayWait (c : Thread nD τ) (csem 0) () (tallyAt (cell (mate c) 2) () N) := by
  have at2 {g : GSem nD τ sig} {u : Unit} (hg : 0 < tallyAt (cell (mate c) 2) () N g u) : g = cell (mate c) 2 := by
    by_contra hn
    rw [tallyAt_apply, if_neg fun h => hn h.1] at hg
    exact absurd hg (Nat.lt_irrefl 0)
  refine MayOwe.of_cut (L := L) (lev := lv) 1 (fun p hp => by rw [Finset.mem_singleton.mp hp]; exact L_cell c _)
    (fun g u hg => by rw [at2 hg]; exact L_cell _ _)
    (fun p hp => by
      rw [Finset.mem_singleton.mp hp]
      exact (by decide : (if csem 0 = csem 0 then 1 else if csem 0 = csem 2 then 2 else 0) ≤ 1))
    (fun g u hg => by
      rw [at2 hg]
      exact (by decide : 1 < if csem 2 = csem 0 then 1 else if csem 2 = csem 2 then 2 else 0))

/-! ## What the body starts from and ends at -/

/-- The cells a device touches: its own three, its partner's barrier and receive cell, allocated under the names `K`. -/
def invs (K : Dev nD × Fin 3 → ℕ) (c : Dev nD) : sProp 𝕄 :=
  iprop(cellInv inSwap (plan m ρ) (K (c, 0)) (cell c 0) ∗ cellInv inSwap (plan m ρ) (K (c, 1)) (cell c 1)
    ∗ cellInv inSwap (plan m ρ) (K (c, 2)) (cell c 2)
    ∗ cellInv inSwap (plan m ρ) (K (mate c, 0)) (cell (mate c) 0) ∗ cellInv inSwap (plan m ρ) (K (mate c, 2)) (cell (mate c) 2))

instance invs_persistent (K : Dev nD × Fin 3 → ℕ) (c : Dev nD) : BI.Persistent (invs m ρ K c) := by unfold invs; infer_instance

/-- The rights to the three payments device `c` makes: two on its partner's cells, one on its own. -/
def rights (c : Dev nD) : sProp 𝕄 :=
  iprop(dutyTok inSwap (cell (mate c) 0) 0 () ∗ dutyTok inSwap (cell c 1) 0 () ∗ dutyTok inSwap (cell (mate c) 2) 0 ())

/-- The ghost state device `c` starts from. -/
def ghost (K : Dev nD × Fin 3 → ℕ) (c : Dev nD) : sProp 𝕄 :=
  iprop(invs m ρ K c
    ∗ (atPos inSwap (cell c 0) 0 ∅ 0 ∗ atPos inSwap (cell c 1) 0 ∅ 0 ∗ atPos inSwap (cell c 2) 0 ∅ 0)
    ∗ (reached inSwap (cell (mate c) 0) 0 ∗ reached inSwap (cell (mate c) 2) 0 ∗ reached inSwap (cell c 1) 0 ∗ reached inSwap (cell c 2) 0)
    ∗ rights c)

/-- That, the credits its partner owes it, and the levels. -/
def start (c : Dev nD) : sProp 𝕄 :=
  iprop((∃ K, ghost m ρ K c) ∗ (cred (tallyAt (cell c 0) () 1) ∗ cred (tallyAt (cell c 2) () N)) ∗ levAts L lv)

/-- Before the body: also the scratch buffer. -/
def before (c : Dev nD) : sProp 𝕄 := iprop(start m ρ c ∗ ∃ f, outPts c f ∗ inPts c f)
/-- After the body: the scratch buffer with both devices' rows and the three cells closed at zero. -/
def after (c : Dev nD) : sProp 𝕄 :=
  iprop((outPts c (mine m ρ c) ∗ inPts c (mine m ρ (mate c))) ∗ semVal (cell c 0) 0 ∗ semVal (cell c 1) 0 ∗ semVal (cell c 2) 0)

/-- The launch's data: what the arrays hold, what each staging buffer holds after the body, and what is owed when. -/
def dats (_ : Fin 1) (c : Dev nD) : Dat τ (Elt F) Unit ℕ GU ℕ cfg0 c where
  A w := (s₀ m ρ).mem ((cfg0.win w).arr.view.loc (c : Thread nD τ))
  after w _ := match w with
    | ⟨0, _⟩ => xOf m ρ c
    | ⟨1, _⟩ => wOf m ρ c
    | ⟨2, _⟩ => labOf m ρ c
    | ⟨3, _⟩ => outOf m ρ c
  Φ t := match t with
    | ⟨0, _⟩ => before m ρ c
    | ⟨_ + 1, _⟩ => after m ρ c
  q _ := fullShare
  owed t := match t with
    | ⟨0, _⟩ => debt c
    | ⟨_ + 1, _⟩ => 0

abbrev 𝒱₀ : Variants := Variants.none

end Cert.KernelIdeal.Swap

end
-- ==== Proof.KernelIdealBody.lean ====
/-
# The kernel's body on one device

From the state `before`, with its three input blocks in their staging buffers, device `c` runs the kernel to the state
`after` and leaves `outOf` in the result's staging buffer: one rule per memory, signal, wait and copy operation, in the
kernel's order.
-/
module

public import proofs.«01_k».proof.Proof.KernelIdealProtocol

@[expose] public section

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GU ℕ

variable (m : (ℓ : Loc nD τ sig) → Buf (Elt F) ℓ) (ρ : Dev nD → PrngReg) (K : Dev nD × Fin 3 → ℕ)

/-! ## Loads and stores of whole buffers -/

omit [FloatOps F] in
theorem zero1 : (![0] : Fin 1 → ℕ) = fun _ => 0 := funext fun a => by fin_cases a; rfl
omit [FloatOps F] in
theorem zero2 : (![0, 0] : Fin 2 → ℕ) = fun _ => 0 := funext fun a => by fin_cases a <;> rfl

omit [FloatOps F] in
theorem load_x (f : (cc0_stg0_0 : Ref sig .tc).ty.Contents (Elt F)) :
    (Memref.whole cc0_stg0_0 : Memref sig .tc .vmem S256x512 .bf16).view.readAt (Elt F)
      (Rect.unit (s := S256x512) ![0, 0] S256x512.size inb_S256x512_S256x512_0_0).toLoadRect f = f :=
  Memref.readAt_unit_zero (Elt F) cc0_stg0_0 zero2 _ f
omit [FloatOps F] in
theorem load_w (f : (cc0_stg1_0 : Ref sig .tc).ty.Contents (Elt F)) :
    (Memref.whole cc0_stg1_0 : Memref sig .tc .vmem S512x4096 .bf16).view.readAt (Elt F)
      (Rect.unit (s := S512x4096) ![0, 0] S512x4096.size inb_S512x4096_S512x4096_0_0).toLoadRect f = f :=
  Memref.readAt_unit_zero (Elt F) cc0_stg1_0 zero2 _ f
omit [FloatOps F] in
theorem load_lab (f : (cc0_stg2_0 : Ref sig .tc).ty.Contents (Elt F)) :
    (Memref.whole cc0_stg2_0 : Memref sig .tc .vmem S256 .i32).view.readAt (Elt F)
      (Rect.unit (s := S256) ![0] S256.size inb_S256_S256_0).toLoadRect f = f :=
  Memref.readAt_unit_zero (Elt F) cc0_stg2_0 zero1 _ f
omit [FloatOps F] in
theorem store_out (f w : (cc0_stg3_0 : Ref sig .tc).ty.Contents (Elt F)) :
    ((Memref.whole cc0_stg3_0 : Memref sig .tc .vmem S256 .f32).access (Rect.unit (s := S256) ![0] S256.size inb_S256_S256_0) : View sig .tc _ _ _).write
      (Elt F) f w Finset.univ = w :=
  Memref.write_access_unit_zero_univ (Elt F) cc0_stg3_0 zero1 _ f w

/-! ## The copy -/

/-- The copy to the partner pays both its semaphores: the sender's with the first half of its own buffer, the
    receiver's with the second half of the partner's buffer, now holding the sender's rows. -/
theorem copy_step (c n : Dev nD) (hn : n = mate c) {hsc : (inM : Memref sig (Dev.tc n : Thread nD τ).2.kind .vmem S3x256 .f32).view.ref.isScScratch = false}
    {hsrc : outM.view.WordExact} {hdst : inM.view.WordExact}
    {hsem : DmaTarget.Typed .vmem (.dma recvS) (.remote (Dev.tc n : Thread nD τ) inM (.dma sendS) hsc)}
    {α : Type} {Q : α → sProp 𝕄} {k : PUnit → Prog (TpuEff nD τ sig (Elt F) Λ₀ .tc) α}
    (g : Scr F) (W : Waits sig Unit) :
    iprop(cellInv inSwap (plan m ρ) (K (c, 1)) (cell c 1) ∗ cellInv inSwap (plan m ρ) (K (mate c, 2)) (cell (mate c) 2)
        ∗ outPts c (mine m ρ c) ∗ inPts (mate c) g
        ∗ owes (c : Thread nD τ) (tallyAt (cell (mate c) 2) () N) W
        ∗ dutyTok inSwap (cell c 1) 0 () ∗ reached inSwap (cell c 1) 0
        ∗ dutyTok inSwap (cell (mate c) 2) 0 () ∗ reached inSwap (cell (mate c) 2) 0)
      ⊢ iprop(((cred (tallyAt (cell c 1) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma outM (.remote (Dev.tc n : Thread nD τ) inM (.dma sendS) hsc) (.dma recvS) hsrc hdst hsem) k) Q) := by
  subst hn
  have hd₁ : () ∈ (plan (F := F) m ρ).duties (cell c 1) 0 := by rw [plan_duties]; exact Finset.mem_singleton_self _
  have hd₂ : () ∈ (plan (F := F) m ρ).duties (cell (mate c) 2) 0 := by rw [plan_duties]; exact Finset.mem_singleton_self _
  have hp₁ : outPts c (mine m ρ c) ⊢ (plan (F := F) m ρ).payload (cell c 1) 0 () := by
    rw [plan_payload]; exact BI.Entails.refl _
  have hp₂ : inPts (mate c) (inM.view.write (Elt F) g (outM.view.read (Elt F) (mine m ρ c)) Finset.univ)
      ⊢ (plan (F := F) m ρ).payload (cell (mate c) 2) 0 () := by
    rw [plan_payload]; unfold carried; rw [mate_mate]
    exact Entails.of_eq (inPts_congr (mate c) (copy_rows g _ _ _))
  have ha₁ := (plan_amount m ρ c 1 ()).trans units_send
  have ha₂ := (plan_amount m ρ (mate c) 2 ()).trans units_recv
  have hN : inM.view.amount (.dma recvS) = N := View.amount_dma _ _
  have hO : tallyAt (cell (mate c) 2) () N = 0 + tallyAt (cell (mate c) 2) () N := (zero_add _).symm
  exact Rounds.wp_send_pointsTo 𝒱₀ inSwap (plan m ρ) (c : Thread nD τ) none (src := outM) (dst := inM) (c' := (mate c : Thread nD τ))
    (sS := .dma sendS) (sem := .dma recvS) (κ₁ := K (c, 1)) (κ₂ := K (mate c, 2))
    (r₁ := 0) (r₂ := 0) (d₁ := ()) (d₂ := ()) (q := fullShare) (fs := mine m ρ c) (fd := g) hd₁ hd₂ () () N hN ha₁ ha₂ 0 hO (W := W) hp₁ hp₂

/-! ## The body -/

/-- A staging buffer of device `c`, whole, holding `X`. -/
abbrev held (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

omit [FloatOps F] in
theorem owns_held (c : Dev nD) (b : Ref sig .tc) (X : b.ty.Contents (Elt F)) :
    (owns (Ix := Unit) (Name := ℕ) (U := GU) (Lvl := ℕ) (c : Thread nD τ) (Memref.whole b) fullShare X : sProp 𝕄) = held c b X := by
  unfold owns; simp only [Memref.view_whole, View.read_whole, View.set_whole]

/-- What the body is entered with, the ghost state already taken out of its existential. -/
def entry (c : Dev nD) : sProp 𝕄 :=
  iprop((ghost m ρ K c ∗ (cred (tallyAt (cell c 0) () 1) ∗ cred (tallyAt (cell c 2) () N)) ∗ levAts L lv)
    ∗ (∃ f, outPts c f ∗ inPts c f)
    ∗ (dats m ρ 0 c).owesAt () (t0_0 : Fin cfg0.N).castSucc
    ∗ (∃ d, held c cc0_stg0_0 ((dats m ρ 0 c).before (0 : Fin 4) t0_0 d))
    ∗ (∃ d, held c cc0_stg1_0 ((dats m ρ 0 c).before (1 : Fin 4) t0_0 d))
    ∗ (∃ d, held c cc0_stg2_0 ((dats m ρ 0 c).before (2 : Fin 4) t0_0 d))
    ∗ (∃ d, held c cc0_stg3_0 ((dats m ρ 0 c).before (3 : Fin 4) t0_0 d)))

/-- What it is left with. -/
def exit (c : Dev nD) : sProp 𝕄 :=
  iprop(after m ρ c ∗ (dats m ρ 0 c).owesAt () (t0_0 : Fin cfg0.N).succ
    ∗ held c cc0_stg0_0 (xOf m ρ c) ∗ held c cc0_stg1_0 (wOf m ρ c) ∗ held c cc0_stg2_0 (labOf m ρ c) ∗ held c cc0_stg3_0 (outOf m ρ c))

/-- The kernel's body, as the launch calls it. -/
abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_stg2_0) (Memref.isWhole_whole _) (Memref.whole cc0_stg3_0) (Memref.isWhole_whole _)
    (Memref.whole cc0_scratch0) (Memref.isWhole_whole _) cc0_scratch1 cc0_scratch2

omit [FloatOps F] in
/-- The elements a store of a row writes lie in the half the row is in. -/
theorem row_sub_out {k : ℕ} {inb} : (scrM.access (rowR 0 k inb)).setOn Finset.univ ⊆ outM.view.set := fun i hi =>
  (mem_out i).mpr ((mem_row i).mp hi).1
omit [FloatOps F] in
theorem row_sub_in {k : ℕ} {inb} : (scrM.access (rowR 1 k inb)).setOn Finset.univ ⊆ inM.view.set := fun i hi =>
  (mem_in i).mpr ((mem_row i).mp hi).1

omit [FloatOps F] in
/-- Loading a row of the first half, whatever it holds: the kernel loads each row before storing it and drops what it read. -/
theorem load_out_row (c : Dev nD) {k : ℕ} {inb} (f : Scr F) {α : Type} {Q : α → sProp 𝕄}
    {hl : scrM.view.LoadsAt (rowR 0 k inb).toLoadRect} {p : Vec F S1x1x256 .f32 → Prog (TpuEff nD τ sig (Elt F) Λ₀ .tc) α} [FloatOps F] :
    outPts c f ⊢ iprop((outPts c f -∗ wp frame (wpE (defs₀ (F := F)) 𝒱₀ (c : Thread nD τ) none) Set.univ
        (p (scrM.view.readAt (Elt F) (rowR 0 k inb).toLoadRect f)) Q)
      -∗ wp frame (wpE (defs₀ (F := F)) 𝒱₀ (c : Thread nD τ) none) Set.univ (.op (.load scrM (rowR 0 k inb).toLoadRect hl) p) Q) :=
  wp_load_rect 𝒱₀ (c : Thread nD τ) none Set.univ (m := scrM) (r := rowR 0 k inb) row_sub_out

/-- Storing a row of the first half. -/
theorem store_out_row (c : Dev nD) {k : ℕ} {inb} (f : Scr F) (w : Vec F S1x1x256 .f32) {α : Type} {Q : α → sProp 𝕄}
    {hx : (scrM.access (rowR 0 k inb)).Stores Finset.univ} {hm} {p : PUnit → Prog (TpuEff nD τ sig (Elt F) Λ₀ .tc) α} :
    outPts c f ⊢ iprop((outPts c ((scrM.access (rowR 0 k inb)).write (Elt F) f w Finset.univ)
        -∗ wp frame (wpE (defs₀ (F := F)) 𝒱₀ (c : Thread nD τ) none) Set.univ (p ⟨⟩) Q)
      -∗ wp frame (wpE (defs₀ (F := F)) 𝒱₀ (c : Thread nD τ) none) Set.univ (.op (.store scrM (rowR 0 k inb) w Finset.univ hx hm) p) Q) :=
  wp_store 𝒱₀ (c : Thread nD τ) none Set.univ (m := scrM) (r := rowR 0 k inb) row_sub_out

/-- Loading a row of the second half once the partner's rows are in it. -/
theorem load_in_row (c : Dev nD) {k : ℕ} {inb} (a b d : Vec F S1x1x256 .f32) {α : Type} {Q : α → sProp 𝕄}
    {hl : scrM.view.LoadsAt (rowR 1 k inb).toLoadRect} {p : Vec F S1x1x256 .f32 → Prog (TpuEff nD τ sig (Elt F) Λ₀ .tc) α} :
    inPts c (rows a b d) ⊢ iprop((inPts c (rows a b d) -∗ wp frame (wpE (defs₀ (F := F)) 𝒱₀ (c : Thread nD τ) none) Set.univ
        (p (if k = 0 then a else if k = 1 then b else d)) Q)
      -∗ wp frame (wpE (defs₀ (F := F)) 𝒱₀ (c : Thread nD τ) none) Set.univ (.op (.load scrM (rowR 1 k inb).toLoadRect hl) p) Q) := by
  rw [← read_row (j := 1) (inb := inb) a b d]
  exact wp_load_rect 𝒱₀ (c : Thread nD τ) none Set.univ (m := scrM) (r := rowR 1 k inb) row_sub_in

set_option maxHeartbeats 1600000 in
/-- The body runs from `entry` to `exit`. -/
theorem body_runs (c : Dev nD) (Q : PUnit → sProp 𝕄) :
    iprop(entry m ρ K c ∗ (exit m ρ c -∗ Q ⟨⟩)) ⊢ wp frame (wpE (defs₀ (F := F)) 𝒱₀ c none) Set.univ theBody Q := by
  unfold theBody
  simp only [cc0_body_eq_skeleton]; unfold cc0_body_skel
  simp only [k0_part1_eq_skeleton, k0_part2_eq_skeleton]; unfold k0_part1_skel k0_part2_skel
  simp only [semSignalWord, semWaitWord, Prog.lift, Prog.bind_op, Prog.bind_ret, Prog.pure_eq_ret, wp_deviceId]
  unfold entry ghost invs rights
  iintro ⟨⟨⟨⟨⟨#I0, #I1, #I2, #J0, #J2⟩, ⟨A0, A1, A2⟩, ⟨#R0, #R2, #R1, #S2⟩, ⟨T0, T1, T2⟩⟩, ⟨C0, C2⟩, #Lev⟩, ⟨%f0, Hout, Hin⟩, Ho,
    ⟨%d0, %g0, %e0, Hx⟩, ⟨%d1, %g1, %e1, Hw⟩, ⟨%d2, %g2, %e2, Hl⟩, ⟨%d3, %g3, %e3, Hr⟩⟩, Hk⟩
  have hx : g0 = xOf m ρ c := by rw [e0]; unfold Dat.before; rw [if_pos (fetch0_0 t0_0)]; rfl
  have hw : g1 = wOf m ρ c := by rw [e1]; unfold Dat.before; rw [if_pos (fetch0_1 t0_0)]; rfl
  have hl : g2 = labOf m ρ c := by rw [e2]; unfold Dat.before; rw [if_pos (fetch0_2 t0_0)]; rfl
  subst hx hw hl
  unfold Dat.owesAt Pipeline.owesWithin
  icases Ho with ⟨%W, %hW, HO⟩
  rw [show (dats m ρ 0 c).owed (t0_0 : Fin cfg0.N).castSucc = debt c from rfl]
  simp only [signal_dev c]
  -- the signal hands the partner the second half of the scratch buffer
  iapply (Rounds.wp_signal 𝒱₀ inSwap (plan m ρ) (c : Thread nD τ) none (dst := (mate c : Thread nD τ)) (κ := K (mate c, 0)) (d := ())
      (by rw [plan_duties m ρ (mate c) 0]; exact Finset.mem_singleton_self _) ((plan_amount m ρ (mate c) 0 ()).trans (by decide)) ()
      (tallyAt (cell (mate c) 2) () N) rfl) $$ [HO T0 Hin]
  · isplitr; · iexact J0
    isplitl [HO]; · iexact HO
    isplitl [T0]; · iexact T0
    isplitl [Hin]
    · rw [plan_payload m ρ (mate c) 0]; unfold carried; rw [mate_mate]
      isplitl [Hin]; · iexists f0; iexact Hin
      iexact S2
    · iexact R0
  iintro HO
  -- the wait for the partner's signal gives the second half of the partner's
  iapply (Rounds.wp_wait_rest_token 𝒱₀ inSwap (plan m ρ) (c : Thread nD τ) none (κ := K (c, 0))
      (wpE_semWait_eq 𝒱₀ (c : Thread nD τ) none Set.univ) (Set.mem_univ _) () (O := tallyAt (cell (mate c) 2) () N) (W := W) (R := 0) (m := 0) (T := ∅)
      (by rw [plan_expect m ρ c 0]; decide)) $$ [C0 HO A0]
  · isplitr; · iexact I0
    isplitl [C0]; · iexact C0
    isplitl [HO]; · iexact HO
    isplitr; · iapply (wait_barrier c); iexact Lev
    iexact A0
  iintro ⟨HO, A0, -, Hp⟩
  ihave Hp := (Entails.of_eq (plan_rest m ρ c 0)) $$ Hp
  unfold carried
  icases Hp with ⟨⟨%fn, HinM⟩, #R2'⟩
  -- the data is loaded
  iapply (wp_load 𝒱₀ (c : Thread nD τ) none Set.univ (m := Memref.whole cc0_stg0_0) (Finset.subset_univ _)) $$ Hx; iintro Hx
  rw [load_x]
  iapply (wp_load 𝒱₀ (c : Thread nD τ) none Set.univ (m := Memref.whole cc0_stg1_0) (Finset.subset_univ _)) $$ Hw; iintro Hw
  rw [load_w]
  iapply (wp_load 𝒱₀ (c : Thread nD τ) none Set.univ (m := Memref.whole cc0_stg2_0) (Finset.subset_univ _)) $$ Hl; iintro Hl
  rw [load_lab]
  -- the three rows are written into the first half
  iapply (load_out_row c f0) $$ Hout; iintro Hout
  iapply (store_out_row c f0 _) $$ Hout; iintro Hout
  iapply (load_out_row c _) $$ Hout; iintro Hout
  iapply (store_out_row c _ _) $$ Hout; iintro Hout
  iapply (load_out_row c _) $$ Hout; iintro Hout
  iapply (store_out_row c _ _) $$ Hout; iintro Hout
  ihave Hout := (Entails.of_eq (outPts_congr c (stores_rows f0 _ _ _))) $$ Hout
  -- the copy
  iapply (copy_step m ρ K c _ (copy_dev c) fn (insert (csem 0, ()) W)) $$ [Hout HinM HO T1 T2]
  · isplitr; · iexact I1
    isplitr; · iexact J2
    isplitl [Hout]; · iexact Hout
    isplitl [HinM]; · iexact HinM
    isplitl [HO]; · iexact HO
    isplitl [T1]; · iexact T1
    isplitr; · iexact R1
    isplitl [T2]; · iexact T2
    iexact R2'
  iintro ⟨C1, HO⟩
  iapply (Rounds.wp_wait_rest_token 𝒱₀ inSwap (plan m ρ) (c : Thread nD τ) none (κ := K (c, 1))
      (wpE_waitDma2_eq 𝒱₀ (c : Thread nD τ) none Set.univ) (Set.mem_univ _) () (O := 0) (W := insert (csem 0, ()) W) (R := 0) (m := 0) (T := ∅)
      (by rw [Nat.zero_add, plan_expect m ρ c 1, units_send])) $$ [C1 HO A1]
  · isplitr; · iexact I1
    isplitl [C1]; · iexact C1
    isplitl [HO]; · iexact HO
    isplitr; · rw [MayWait_zero]; iempintro
    iexact A1
  iintro ⟨HO, A1, -, Hp⟩
  ihave Hout := (Entails.of_eq (plan_rest m ρ c 1)) $$ Hp
  iapply (Rounds.wp_wait_rest_token 𝒱₀ inSwap (plan m ρ) (c : Thread nD τ) none (κ := K (c, 2))
      (wpE_waitDma2_eq 𝒱₀ (c : Thread nD τ) none Set.univ) (Set.mem_univ _) () (O := 0) (W := insert (csem 1, ()) (insert (csem 0, ()) W)) (R := 0) (m := 0) (T := ∅)
      (by rw [Nat.zero_add, plan_expect m ρ c 2, units_recv])) $$ [C2 HO A2]
  · isplitr; · iexact I2
    isplitl [C2]; · iexact C2
    isplitl [HO]; · iexact HO
    isplitr; · rw [MayWait_zero]; iempintro
    iexact A2
  iintro ⟨HO, A2, -, Hp⟩
  ihave Hin := (Entails.of_eq (plan_rest m ρ c 2)) $$ Hp
  -- every cell has had its payment: all three close at zero
  imod (Rounds.cell_close inSwap (plan m ρ) (Set.mem_univ (K (c, 0))) (fun h => h) (R := 0 + 1) (plan_over m ρ (cell c 0))) $$ [A0] with Z0
  · isplitr; · iexact I0
    iexact A0
  imod (Rounds.cell_close inSwap (plan m ρ) (Set.mem_univ (K (c, 1))) (fun h => h) (R := 0 + 1) (plan_over m ρ (cell c 1))) $$ [A1] with Z1
  · isplitr; · iexact I1
    iexact A1
  imod (Rounds.cell_close inSwap (plan m ρ) (Set.mem_univ (K (c, 2))) (fun h => h) (R := 0 + 1) (plan_over m ρ (cell c 2))) $$ [A2] with Z2
  · isplitr; · iexact I2
    iexact A2
  unfold carried
  -- the partner's rows are loaded and the result stored
  have hm : mine m ρ (mate c) = rows _ _ _ := rfl
  rw [hm]
  iapply (load_in_row c _ _ _) $$ Hin; iintro Hin
  iapply (load_in_row c _ _ _) $$ Hin; iintro Hin
  iapply (load_in_row c _ _ _) $$ Hin; iintro Hin
  iapply (wp_load 𝒱₀ (c : Thread nD τ) none Set.univ (m := Memref.whole cc0_stg3_0) (Finset.subset_univ _)) $$ Hr; iintro Hr
  iapply (wp_store 𝒱₀ (c : Thread nD τ) none Set.univ (m := Memref.whole cc0_stg3_0)
    (r := Rect.unit (s := S256) ![0] S256.size inb_S256_S256_0) (Mk := Finset.univ) (Finset.subset_univ _)) $$ Hr; iintro Hr
  rw [store_out, wp_ret]; imodintro
  iapply Hk
  unfold exit after Dat.owesAt Pipeline.owesWithin
  rw [show (dats m ρ 0 c).owed (t0_0 : Fin cfg0.N).succ = 0 from rfl]
  isplitl [Hout Hin Z0 Z1 Z2]
  · isplitl [Hout Hin]
    · isplitl [Hout]; · iexact Hout
      iexact Hin
    isplitl [Z0]; · iexact Z0
    isplitl [Z1] <;> iassumption
  isplitl [HO]
  · iexists (insert (csem 2, ()) (insert (csem 1, ()) (insert (csem 0, ()) W)))
    isplitr; · ipureintro; exact fun _ _ => Or.inl trivial
    iexact HO
  isplitl [Hx]
  · iexists _; isplitr; · (ipureintro; rfl)
    iexact Hx
  isplitl [Hw]
  · iexists _; isplitr; · (ipureintro; rfl)
    iexact Hw
  isplitl [Hl]
  · iexists _; isplitr; · (ipureintro; rfl)
    iexact Hl
  iexists _; isplitr; · (ipureintro; rfl)
  iexact Hr

end Cert.KernelIdeal.Swap

end
-- ==== Proof.KernelIdealLaunch.lean ====
/-
# The launch

All eight devices started together: every device's three cells are set up at once, the rights to pay are dealt to the
devices that pay, and the launch theorem of the pipeline library gives the run of the whole program. What the run leaves
in the arrays is read off at the end: the arguments as they were, the result at `outOf`.
-/
module

public import proofs.«01_k».proof.Proof.KernelIdealBody
public import Idealize.ShloMosaic.Lib.Pipeline.CollectiveSegs

@[expose] public section

noncomputable section

namespace Cert.KernelIdeal.Swap

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ GU ℕ

variable (m : (ℓ : Loc nD τ sig) → Buf (Elt F) ℓ) (ρ : Dev nD → PrngReg)

/-! ## The body, as the launch theorem asks for it -/

/-- The state before the body, with the ghost state still under its existential. -/
def entryAll (c : Dev nD) : sProp 𝕄 :=
  iprop(before m ρ c ∗ (dats m ρ 0 c).owesAt () (t0_0 : Fin cfg0.N).castSucc
    ∗ (∃ d, held c cc0_stg0_0 ((dats m ρ 0 c).before (0 : Fin 4) t0_0 d))
    ∗ (∃ d, held c cc0_stg1_0 ((dats m ρ 0 c).before (1 : Fin 4) t0_0 d))
    ∗ (∃ d, held c cc0_stg2_0 ((dats m ρ 0 c).before (2 : Fin 4) t0_0 d))
    ∗ (∃ d, held c cc0_stg3_0 ((dats m ρ 0 c).before (3 : Fin 4) t0_0 d)))

set_option maxRecDepth 4000 in
theorem body_obligation (c : Dev nD) : BodyObligation (dats (F := F) m ρ 0 c) (defs₀ (F := F)) 𝒱₀ () Set.univ := fun t => by
  rw [fin_N0 t, bigSep_W0, bigSep_W0]
  simp only [owns_held]
  show entryAll m ρ c ⊢ wp frame (wpE (defs₀ (F := F)) 𝒱₀ c none) Set.univ theBody (fun _ => exit m ρ c)
  unfold entryAll before start
  iintro ⟨⟨⟨⟨%K, Hg⟩, Hc, Hl⟩, Hs⟩, Ho, Hx, Hw, Hlab, Hr⟩
  iapply (body_runs m ρ K c fun _ => exit m ρ c)
  unfold entry
  isplitr []
  · isplitl [Hg Hc Hl]
    · isplitl [Hg]; · iexact Hg
      isplitl [Hc] <;> iassumption
    isplitl [Hs]; · iexact Hs
    isplitl [Ho]; · iexact Ho
    isplitl [Hx]; · iexact Hx
    isplitl [Hw]; · iexact Hw
    isplitl [Hlab] <;> iassumption
  · iintro H; iexact H

/-! ## The cells of all devices at once -/

theorem own_sems : Pipeline.OwnSemFacts cfg0.spec osem := by decide

theorem share_full (c : Dev nD) (w : Fin cfg0.W) : (dats m ρ 0 c).share w = fullShare := by
  unfold Dat.share; split <;> rfl

/-- Device and number, as one index. -/
abbrev at' (ck : Dev nD × Fin 3) : GSem nD τ sig := cell ck.1 ck.2

theorem at_injective : Function.Injective at' := fun a b h =>
  Prod.ext (congrArg (fun g : GSem nD τ sig => g.1.1) h) (csem_injective (congrArg Prod.snd h))

/-- Two cells of the same number are equal exactly when the devices are. -/
theorem cell_eq_iff {a b : Dev nD} {k : Fin 3} : Iff (cell a k = cell b k) (a = b) :=
  ⟨fun h => congrArg Prod.fst (at_injective (a₁ := (a, k)) (a₂ := (b, k)) h), fun h => h ▸ rfl⟩

/-- Cells of different numbers are different. -/
theorem cell_ne {a b : Dev nD} {k l : Fin 3} (h : k ≠ l) : cell a k ≠ cell b l := fun e =>
  h (congrArg Prod.snd (at_injective (a₁ := (a, k)) (a₂ := (b, l)) e))

def allCells : Finset (GSem nD τ sig) := Finset.univ.map ⟨at', at_injective⟩

/-- The one payment of every cell. -/
def allPays : Finset (GSem nD τ sig × ℕ × Unit) :=
  Finset.univ.map ⟨fun ck => (at' ck, 0, ()), fun _ _ h => at_injective (congrArg Prod.fst h)⟩

/-- The ghost state at launch. -/
def u₀ : GU := (initOf (Pipeline.cells cfgs cellOf_inj) (Pipeline.launchToks cfgs cellOf_inj), initOf allCells allPays)

/-- The launch gives each device the state, the place and the right to pay of each of its own cells. -/
def dealt (c : Dev nD) : sProp 𝕄 :=
  iprop((bigSep Finset.univ fun k : Fin 3 => roundState inSwap (plan m ρ) (cell c k) 0)
    ∗ (bigSep Finset.univ fun k : Fin 3 => iprop(atPos inSwap (cell c k) 0 ∅ 0 ∗ reached inSwap (cell c k) 0))
    ∗ (bigSep Finset.univ fun k : Fin 3 => dutyTok inSwap (cell c k) 0 ()))

/-- What a device needs of that to start. -/
def needs (c : Dev nD) : sProp 𝕄 := iprop(∃ K, ghost m ρ K c)

omit [FloatOps F] in
theorem bigSep_three (Φ : Fin 3 → sProp 𝕄) : bigSep Finset.univ Φ = iprop(Φ 0 ∗ Φ 1 ∗ Φ 2) :=
  bigSep_univ_eq_bigSepL [0, 1, 2] (by decide) (by decide) Φ

omit [FloatOps F] in
/-- Over all cells is over all devices and all three numbers. -/
theorem bigSep_cells (Φ : GSem nD τ sig → sProp 𝕄) :
    bigSep allCells Φ = bigSep Finset.univ fun c : Dev nD => bigSep Finset.univ fun k : Fin 3 => Φ (cell c k) := by
  unfold allCells; rw [bigSep_map, bigSep_univ_prod]; rfl

omit [FloatOps F] in
theorem bigSep_pays :
    bigSep allPays (fun x => (dutyTok inSwap x.1 x.2.1 x.2.2 : sProp 𝕄))
      = bigSep Finset.univ fun c : Dev nD => bigSep Finset.univ fun k : Fin 3 => dutyTok inSwap (cell c k) 0 () := by
  unfold allPays; rw [bigSep_map, bigSep_univ_prod]; rfl

theorem fund_swap : BI.own (inSwap (initOf allCells allPays)) ⊢ (|==> bigSep Finset.univ (dealt m ρ) : sProp 𝕄) := by
  iintro HX
  imod (Rounds.fund inSwap (plan m ρ) allCells allPays) $$ HX with ⟨Hst, Hr, Hat, Htok⟩
  imodintro
  ihave Hst := (Entails.of_eq (bigSep_cells fun g => roundState inSwap (plan m ρ) g 0)) $$ Hst
  ihave Hat := (Entails.of_eq (bigSep_cells fun g => atPos inSwap g 0 ∅ 0)) $$ Hat
  ihave Hr := (Entails.of_eq (bigSep_cells fun g => reached inSwap g 0)) $$ Hr
  ihave Htok := (Entails.of_eq (bigSep_pays (F := F))) $$ Htok
  unfold dealt; simp only [bigSep_sep']
  isplitl [Hst]; · iexact Hst
  isplitl [Hat Hr]
  · isplitl [Hat] <;> iassumption
  iexact Htok

omit [FloatOps F] in
/-- The launch's own semaphores are the send and the receive semaphore, -/
theorem own_eq (c : Dev nD) : (Pipeline.ownSems0 (Ix := Unit) (Name := ℕ) (U := GU) (Lvl := ℕ) (Val := Elt F) (τ := τ) osem c : sProp 𝕄)
    = iprop(semVal (cell c 1) 0 ∗ semVal (cell c 2) 0) := by
  rw [Pipeline.ownSems0_eq_of_list c osem [0, 1] (by decide) (by decide)]; rfl
omit [FloatOps F] in
/-- the one semaphore outside it is the barrier's, -/
theorem barrier_eq (c : Dev nD) : (unscopedSems0 c : sProp 𝕄) = semVal (cell c 0) 0 := by
  unfold unscopedSems0; rw [bigSep_eq_bigSepL_of_eq [csem 0] (by decide) (by decide)]; rfl

omit [FloatOps F] in
/-- and together they are the three cells. -/
theorem sems_eq (c : Dev nD) :
    iprop(Pipeline.ownSems0 (Ix := Unit) (Name := ℕ) (U := GU) (Lvl := ℕ) (Val := Elt F) (τ := τ) osem c ∗ unscopedSems0 c)
      ⊢ (bigSep Finset.univ fun k : Fin 3 => semVal (cell c k) 0 : sProp 𝕄) := by
  rw [own_eq, barrier_eq, bigSep_three]
  iintro ⟨⟨H1, H2⟩, H0⟩
  isplitl [H0]; · iexact H0
  isplitl [H1] <;> iassumption

/-- The cells of one device set up. -/
def setUp (c : Dev nD) : sProp 𝕄 :=
  iprop((bigSep Finset.univ fun k => iprop(∃ κ : ℕ, cellInv inSwap (plan m ρ) κ (cell c k)))
    ∗ (bigSep Finset.univ fun k : Fin 3 => iprop(atPos inSwap (cell c k) 0 ∅ 0 ∗ reached inSwap (cell c k) 0))
    ∗ (bigSep Finset.univ fun k : Fin 3 => dutyTok inSwap (cell c k) 0 ()))

theorem set_up (c : Dev nD) :
    iprop(Pipeline.ownSems0 (Ix := Unit) (Name := ℕ) (U := GU) (Lvl := ℕ) (Val := Elt F) (τ := τ) osem c ∗ unscopedSems0 c ∗ dealt m ρ c)
      ⊢ |={Set.univ}=> setUp m ρ c := by
  unfold dealt setUp
  iintro ⟨Ho, Hu, Hst, Hat, Htok⟩
  ihave Hv := (sems_eq (F := F) c) $$ [Ho Hu]
  · isplitl [Ho] <;> iassumption
  imod (show iprop((bigSep Finset.univ fun k : Fin 3 => semVal (cell c k) 0) ∗ bigSep Finset.univ fun k : Fin 3 => roundState inSwap (plan m ρ) (cell c k) 0)
      ⊢ (|={Set.univ}=> bigSep Finset.univ fun k => iprop(∃ κ : ℕ, cellInv inSwap (plan m ρ) κ (cell c k)) : sProp 𝕄) from by
        rw [← bigSep_sep']
        exact (bigSep_mono fun k _ => (Rounds.body_intro inSwap (plan m ρ) (cell c k)).trans inv_alloc).trans (bigSep_fupd _ _)) $$ [Hv Hst] with Hinv
  · isplitl [Hv] <;> iassumption
  imodintro
  isplitl [Hinv]; · iexact Hinv
  isplitl [Hat] <;> iassumption

/-! ## Dealing the cells out -/

/-- Every cell is set up, under the names `K`, and ready for its payment: known to everyone. -/
def known (K : Dev nD × Fin 3 → ℕ) : sProp 𝕄 :=
  iprop((bigSep Finset.univ fun ck : Dev nD × Fin 3 => cellInv inSwap (plan m ρ) (K ck) (at' ck))
    ∗ bigSep Finset.univ fun ck : Dev nD × Fin 3 => reached inSwap (at' ck) 0)

instance known_persistent (K : Dev nD × Fin 3 → ℕ) : BI.Persistent (known m ρ K) := by unfold known; infer_instance

theorem known_inv (K : Dev nD × Fin 3 → ℕ) (c : Dev nD) (k : Fin 3) :
    (bigSep Finset.univ fun ck : Dev nD × Fin 3 => (cellInv inSwap (plan m ρ) (K ck) (at' ck) : sProp 𝕄)) ⊢ cellInv inSwap (plan m ρ) (K (c, k)) (cell c k) :=
  bigSep_elim (Finset.mem_univ (c, k))
omit [FloatOps F] in
theorem known_reached (c : Dev nD) (k : Fin 3) :
    (bigSep Finset.univ fun ck : Dev nD × Fin 3 => (reached inSwap (at' ck) 0 : sProp 𝕄)) ⊢ reached inSwap (cell c k) 0 :=
  bigSep_elim (Finset.mem_univ (c, k))

/-- What device `c` holds alone: its places, and the rights to the payments it makes. -/
def alone (c : Dev nD) : sProp 𝕄 :=
  iprop((atPos inSwap (cell c 0) 0 ∅ 0 ∗ atPos inSwap (cell c 1) 0 ∅ 0 ∗ atPos inSwap (cell c 2) 0 ∅ 0) ∗ rights c)

theorem needs_intro (K : Dev nD × Fin 3 → ℕ) (c : Dev nD) : iprop(known m ρ K ∗ alone c) ⊢ needs m ρ c := by
  unfold known alone needs ghost invs
  iintro ⟨⟨#HI, #HR⟩, Hat, Hr⟩
  iexists K
  isplitr
  · isplitr; · iapply (known_inv m ρ K c 0); iexact HI
    isplitr; · iapply (known_inv m ρ K c 1); iexact HI
    isplitr; · iapply (known_inv m ρ K c 2); iexact HI
    isplitr; · iapply (known_inv m ρ K (mate c) 0); iexact HI
    iapply (known_inv m ρ K (mate c) 2); iexact HI
  isplitl [Hat]; · iexact Hat
  isplitr
  · isplitr; · iapply (known_reached (F := F) (mate c) 0); iexact HR
    isplitr; · iapply (known_reached (F := F) (mate c) 2); iexact HR
    isplitr; · iapply (known_reached (F := F) c 1); iexact HR
    iapply (known_reached (F := F) c 2); iexact HR
  iexact Hr

omit [FloatOps F] in
/-- The rights to pay the barrier and the receive cells go to the partners. -/
theorem rights_swapped :
    (bigSep Finset.univ fun c : Dev nD => (bigSep Finset.univ fun k : Fin 3 => dutyTok inSwap (cell c k) 0 () : sProp 𝕄))
      ⊢ bigSep Finset.univ fun c : Dev nD => rights c := by
  simp only [bigSep_three]
  unfold rights
  rw [bigSep_sep', bigSep_sep', bigSep_sep', bigSep_sep',
    bigSep_univ_equiv mates (fun c : Dev nD => (dutyTok inSwap (cell c 0) 0 () : sProp 𝕄)),
    bigSep_univ_equiv mates (fun c : Dev nD => (dutyTok inSwap (cell c 2) 0 () : sProp 𝕄))]
  exact Entails.refl _

theorem deal_out : (bigSep Finset.univ fun c : Dev nD => setUp m ρ c : sProp 𝕄) ⊢ bigSep Finset.univ (needs m ρ) := by
  unfold setUp
  rw [bigSep_sep', bigSep_sep', ← bigSep_univ_prod (fun ck : Dev nD × Fin 3 => iprop(∃ κ : ℕ, cellInv inSwap (plan m ρ) κ (at' ck))),
    bigSep_congr (s := Finset.univ) (fun (c : Dev nD) _ => bigSep_sep' Finset.univ (fun k : Fin 3 => (atPos inSwap (cell c k) 0 ∅ 0 : sProp 𝕄)) (fun k => reached inSwap (cell c k) 0)),
    bigSep_sep', ← bigSep_univ_prod (fun ck : Dev nD × Fin 3 => (reached inSwap (at' ck) 0 : sProp 𝕄))]
  iintro ⟨HI, ⟨Hat, #HR⟩, Htok⟩
  ihave HK := (BI.bigSep_exists_pi Finset.univ (fun (ck : Dev nD × Fin 3) (κ : ℕ) => (cellInv inSwap (plan m ρ) κ (at' ck) : sProp 𝕄))) $$ HI
  icases HK with ⟨%K, #HI⟩
  ihave Hr := (rights_swapped (F := F)) $$ Htok
  have step : iprop(known m ρ K ∗ bigSep Finset.univ fun c : Dev nD => alone (F := F) c) ⊢ bigSep Finset.univ (needs m ρ) :=
    (sep_mono_left (BI.bigSep_of_persistent Finset.univ (known m ρ K))).trans (by rw [← bigSep_sep']; exact bigSep_mono fun c _ => needs_intro m ρ K c)
  iapply step
  isplitr
  · unfold known; isplitl; · iexact HI
    iexact HR
  · have join : iprop((bigSep Finset.univ fun c : Dev nD => bigSep Finset.univ fun k : Fin 3 => (atPos inSwap (cell c k) 0 ∅ 0 : sProp 𝕄)) ∗ bigSep Finset.univ fun c : Dev nD => rights c)
        ⊢ bigSep Finset.univ fun c : Dev nD => (alone c : sProp 𝕄) := by
      simp only [← bigSep_sep', bigSep_three]
      unfold alone
      exact Entails.refl _
    iapply join
    isplitl [Hat]; · iexact Hat
    iexact Hr

theorem everyone : (bigSep Finset.univ fun c => iprop(Pipeline.ownSems0 (Ix := Unit) (Name := ℕ) (U := GU) (Lvl := ℕ) (Val := Elt F) (τ := τ) osem c ∗ unscopedSems0 c ∗ dealt m ρ c) : sProp 𝕄)
    ⊢ |={Set.univ}=> bigSep Finset.univ (needs m ρ) :=
  ((bigSep_mono fun c _ => set_up m ρ c).trans (bigSep_fupd _ _)).trans (BI.fupd_mono (deal_out m ρ))

/-! ## The credits at launch -/

/-- What device `d` owes cell `k` of device `c`: nothing unless it is the partner. -/
theorem owed_at (d c : Dev nD) (k : Fin 3) (hk : k ≠ 1) : debt d (cell c k) () = if d = mate c then units k else 0 := by
  have h2 : k = 0 ∨ k = 2 := by revert hk; revert k; decide
  unfold debt
  rw [Pi.add_apply, Finsupp.add_apply, tallyAt_apply, tallyAt_apply]
  rcases h2 with rfl | rfl
  · rw [if_neg (fun h => cell_ne (by decide) h.1), Nat.zero_add, units_bar]
    exact if_congr (by rw [eq_comm, ← mate_eq_iff, cell_eq_iff]; exact and_iff_left rfl) rfl rfl
  · rw [if_neg (c := cell c 2 = cell (mate d) 0 ∧ () = ()) (fun h => cell_ne (by decide) h.1), Nat.add_zero, units_recv]
    exact if_congr (by rw [eq_comm, ← mate_eq_iff, cell_eq_iff]; exact and_iff_left rfl) rfl rfl

theorem credit_at (c : Dev nD) (k : Fin 3) (hk : k ≠ 1) :
    tallyOn (cell c k) (launchCredit (Pipeline.owing debt) 0 (cell c k)) = (tallyAt (cell c k) () (units k) : CellTallies nD τ sig Unit) := by
  unfold tallyAt; refine congrArg _ (Finsupp.ext fun u => ?_); cases u
  rw [Pipeline.launchCredit_owing, Finsupp.single_eq_same, Finset.sum_congr rfl fun d _ => owed_at d c k hk,
    Finset.sum_ite_eq' Finset.univ (mate c) fun _ => units k, if_pos (Finset.mem_univ _)]

omit [FloatOps F] in
theorem credits (c : Dev nD) :
    (Pipeline.launchCred debt c : sProp 𝕄) ⊢ iprop(cred (tallyAt (cell c 0) () 1) ∗ cred (tallyAt (cell c 2) () N)) := by
  have h0 := credit_at c 0 (by decide)
  have h2 := credit_at c 2 (by decide)
  rw [units_bar] at h0
  rw [units_recv] at h2
  unfold Pipeline.launchCred
  rw [bigSep_univ_at _ (csem 0), h0]
  refine sep_mono_right ?_
  rw [← h2]
  exact bigSep_elim (Finset.mem_erase.mpr ⟨by decide, Finset.mem_univ (csem 2)⟩)

/-! ## The side conditions of the launch theorem -/

theorem start_intro (c : Dev nD) :
    iprop(Pipeline.unscopedRestP Pipeline.Prefetch.none cfg0.spec c (fun b => m ((c : Thread nD τ).loc b)) ∗ levAts L lv
        ∗ Pipeline.launchCred debt c ∗ prngReg c (ρ c) ∗ needs m ρ c)
      ⊢ |={Set.univ}=> iprop(start m ρ c ∗ emp) := by
  iintro ⟨-, Hlev, Hcr, -, HG⟩
  ihave Hc := (credits (F := F) c) $$ Hcr
  imodintro
  unfold start needs
  isplitl
  · isplitl [HG]; · iexact HG
    isplitl [Hc] <;> iassumption
  · iempintro

theorem enter (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = before m ρ c from rfl, scopedRest0_eq]
  unfold before
  iintro ⟨Hs, -, ⟨%f, Hr⟩⟩
  isplitl [Hs]; · iexact Hs
  iexists f; iapply (scr_split c f); iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = after m ρ c from rfl, scopedRest0_eq, own_eq, barrier_eq]
  unfold after
  iintro ⟨Hr, H0, H1, H2⟩
  isplitl [H0]; · iexact H0
  isplitl [H1 H2]
  · isplitl [H1] <;> iassumption
  iapply (scr_join c (mine m ρ c) (mine m ρ (mate c))); iexact Hr

theorem may_wait (c : Dev nD) : (levAts L lv : sProp 𝕄) ⊢ Pipeline.cellsWaits cfgs (dats m ρ) () 0 c :=
  Pipeline.cellsWaits_intro cfgs (dats m ρ) () 0 c fun w s t =>
    wait_stage c _ (by fin_cases w <;> fin_cases s <;> decide) _ (by
      rcases t with ⟨_ | _, ht⟩
      · exact Or.inl rfl
      · exact Or.inr rfl)

/-! ## The run -/

/-- What array `w` of device `c` holds at the end. -/
def final (c : Dev nD) (w : Fin cfg0.W) : Buf (Elt F) ((cfg0.win w).arr.view.loc (c : Thread nD τ)) := (dats m ρ 0 c).arrAt w cfg0.N

set_option maxRecDepth 8000 in
/-- For any float values and any memory with every counter at zero: every fair execution of the program on the eight
    devices ends, each array at `final`, every counter at zero. -/
theorem run_main : θ_run defs (onTc (τ := τ) (main (F := F))) (s₀ m ρ) (fun r =>
    (∀ c : Dev nD, ∀ w : Fin cfg0.W, r.2.mem ((cfg0.win w).arr.view.loc (c : Thread nD τ)) = final m ρ c w) ∧ r.2.sem = fun _ => 0) :=
  Pipeline.θ_run_region_owing_glob_pf (fun p => (cfgs p).toPCfg) (fun p => (cfgs p).toPCfg_adm) (dats m ρ) () cellOf_inj (0 : Fin 1)
    winFacts0.to₀ own_sems (Pipeline.PreFacts.none _) inPipe defs₀ 𝒱₀ m ρ main
    (hmain := fun _ => rfl)
    (hbody := body_obligation m ρ) (hne := fun w => by fin_cases w <;> exact Nat.succ_pos _) (harr := arr_whole0) (hstage := stage_whole0) (hshare := share_full m ρ)
    (hdistinct := winFacts0.arr_inj)
    (O₀ := debt) (howed₀ := fun _ => rfl) (howedN := fun _ => rfl)
    (L := L) (lv := lv) (hL := L_none) (hwaits := may_wait m ρ)
    (G := dealt m ρ) (G' := needs m ρ) (u₀ := u₀)
    (hu₀ := by
      unfold u₀
      iintro Hu
      ihave H := (ownU_pair _ _) $$ Hu
      icases H with ⟨HP, HX⟩
      imod (fund_swap m ρ) $$ HX with HG
      imodintro
      isplitl [HP] <;> iassumption)
    (hglob := everyone m ρ)
    (hA := fun _ _ => rfl) (hpf := fun _ k => k.elim0)
    (X := start m ρ) (Y := fun c => unscopedSems0 c) (Z := fun _ => iprop(emp))
    (hX := start_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are left as they were, -/
theorem final_x (c : Dev nD) : final m ρ c (0 : Fin 4) = m ((c : Thread nD τ).loc main_arg0) :=
  (dats (F := F) m ρ 0 c).arrAt_in (0 : Fin 4) rfl _
theorem final_w (c : Dev nD) : final m ρ c (1 : Fin 4) = m ((c : Thread nD τ).loc main_arg1) :=
  (dats (F := F) m ρ 0 c).arrAt_in (1 : Fin 4) rfl _
theorem final_lab (c : Dev nD) : final m ρ c (2 : Fin 4) = m ((c : Thread nD τ).loc main_arg2) :=
  (dats (F := F) m ρ 0 c).arrAt_in (2 : Fin 4) rfl _

/-- and the result is what the kernel stored. -/
theorem final_out (c : Dev nD) : final m ρ c (3 : Fin 4) = outOf m ρ c := by
  have h : (win0_3.blk (0 : Fin 1)).view.read (Elt F) (final m ρ c (3 : Fin 4)) = outOf m ρ c := by
    unfold final
    rw [show cfg0.N = (t0_0 : Fin cfg0.N).val + 1 from rfl, (dats m ρ 0 c).arrAt_succ (3 : Fin 4) t0_0, flush0_3, if_pos rfl]
    exact View.read_write_univ _ _
  exact (Memref.read_access_unit_zero (Elt F) main_v1 (off := fun a => (win0_3.index (0 : Fin 1)) a * main_v1.ty.shape.size a)
    (funext fun a => by fin_cases a; decide) (fun a => by fin_cases a; decide) _).symm.trans h

omit [FloatOps F] in
/-- Each argument's one block is all of it. -/
theorem xOf_eq (c : Dev nD) : xOf m ρ c = m ((c : Thread nD τ).loc main_arg0) :=
  Memref.read_access_unit_zero (Elt F) main_arg0 (off := fun a => (win0_0.index (0 : Fin 1)) a * main_arg0.ty.shape.size a)
    (funext fun a => by fin_cases a <;> decide) (fun a => by fin_cases a <;> decide) _
omit [FloatOps F] in
theorem wOf_eq (c : Dev nD) : wOf m ρ c = m ((c : Thread nD τ).loc main_arg1) :=
  Memref.read_access_unit_zero (Elt F) main_arg1 (off := fun a => (win0_1.index (0 : Fin 1)) a * main_arg1.ty.shape.size a)
    (funext fun a => by fin_cases a <;> decide) (fun a => by fin_cases a <;> decide) _
omit [FloatOps F] in
theorem labOf_eq (c : Dev nD) : labOf m ρ c = m ((c : Thread nD τ).loc main_arg2) :=
  Memref.read_access_unit_zero (Elt F) main_arg2 (off := fun a => (win0_2.index (0 : Fin 1)) a * main_arg2.ty.shape.size a)
    (funext fun a => by fin_cases a; decide) (fun a => by fin_cases a; decide) _

/-- The whole run, in the arrays' names. -/
theorem run_arrays : θ_run defs (onTc (τ := τ) (main (F := F))) (s₀ m ρ) (fun r =>
    (∀ c : Dev nD, r.2.mem ((c.tc : Thread nD τ).loc main_v1) = outOf m ρ c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) ∧ r.2.sem = fun _ => 0) :=
  (θ_run defs _ _).mono (fun _ h => ⟨fun c => ⟨(h.1 c (3 : Fin 4)).trans (final_out m ρ c), (h.1 c (0 : Fin 4)).trans (final_x m ρ c),
    (h.1 c (1 : Fin 4)).trans (final_w m ρ c), (h.1 c (2 : Fin 4)).trans (final_lab m ρ c)⟩, h.2⟩) (run_main m ρ)

end Cert.KernelIdeal.Swap

end
-- ==== Proof.LogSumExp.lean ====
/-
# The log-sum-exp of a row, put together from its two halves

Mathematics on the extended reals alone; no program is named here. A row of `8192` numbers is cut into two halves of
`4096`. Of each half three numbers are known: its maximum, the sum of `exp (l − maximum)`, and the entry at the label's
column if that column lies in the half (`0` otherwise). From the six numbers the loss of the whole row,
`maximum + log (∑ exp (l − maximum)) − l[label]`, is computed, and that it comes out right is shown with no assumption
that the entries are finite.
-/
module

public import Idealize.ShloMosaic.PureOps.Ideal.Laws
public import Idealize.ShloMosaic.Lib.Pointwise.Sums
public import Mathlib.Data.EReal.Operations
public import Mathlib.Data.Finset.Fold

@[expose] public section

noncomputable section

namespace Cert.LogSumExp

open Idealize.ShloMosaic

/-! ## One half: moving the maximum that is subtracted -/

/-- The exponential of an extended real is not negative. -/
theorem exp_nonneg (a : EReal) : 0 ≤ Ideal.exp a := by
  induction a with
  | bot => exact le_of_eq Ideal.exp_bot.symm
  | top => rw [Ideal.exp_top]; exact le_top
  | coe r => rw [Ideal.exp_coe]; exact EReal.coe_nonneg.2 (Real.exp_pos r).le

/-- `exp (a − m) · exp (m − g) = exp (a − g)` when `a ≤ m ≤ g`, the infinities included. -/
theorem exp_shift {a m g : EReal} (ham : a ≤ m) (hmg : m ≤ g) :
    Ideal.exp (a - m) * Ideal.exp (m - g) = Ideal.exp (a - g) := by
  induction g with
  | top => rw [EReal.sub_top, EReal.sub_top, Ideal.exp_bot, mul_zero]
  | bot =>
    obtain rfl : m = ⊥ := le_bot_iff.1 hmg
    obtain rfl : a = ⊥ := le_bot_iff.1 ham
    rw [EReal.bot_sub, Ideal.exp_bot, mul_zero]
  | coe g =>
    induction m with
    | top => exact absurd (lt_of_le_of_lt hmg (EReal.coe_lt_top g)) (lt_irrefl _)
    | bot =>
      obtain rfl : a = ⊥ := le_bot_iff.1 ham
      rw [EReal.bot_sub, EReal.bot_sub, Ideal.exp_bot, mul_zero]
    | coe m =>
      induction a with
      | top => exact absurd (lt_of_le_of_lt ham (EReal.coe_lt_top m)) (lt_irrefl _)
      | bot => rw [EReal.bot_sub, EReal.bot_sub, Ideal.exp_bot, zero_mul]
      | coe a =>
        rw [← EReal.coe_sub, ← EReal.coe_sub, ← EReal.coe_sub, Ideal.exp_coe, Ideal.exp_coe, Ideal.exp_coe,
          ← EReal.coe_mul, ← Real.exp_add, sub_add_sub_cancel]

/-- A factor goes into a sum of terms that are not negative. -/
theorem sum_mul_of_nonneg {ι : Type} (s : Finset ι) (f : ι → EReal) (hf : ∀ k, 0 ≤ f k) (c : EReal) :
    (∑ k ∈ s, f k) * c = ∑ k ∈ s, f k * c := by
  classical
  induction s using Finset.induction_on with
  | empty => rw [Finset.sum_empty, Finset.sum_empty, zero_mul]
  | insert a s ha ih =>
    rw [Finset.sum_insert ha, Finset.sum_insert ha, EReal.right_distrib_of_nonneg (hf a) (Finset.sum_nonneg fun k _ => hf k), ih]

/-- The sum of `exp (l − m)`, times `exp (m − g)`, is the sum of `exp (l − g)`: `m` a bound of the entries, `g` of `m`. -/
theorem sum_shift {n : ℕ} (f : Fin n → EReal) {m g : EReal} (hf : ∀ k, f k ≤ m) (hmg : m ≤ g) :
    (∑ k, Ideal.exp (f k - m)) * Ideal.exp (m - g) = ∑ k, Ideal.exp (f k - g) := by
  rw [sum_mul_of_nonneg _ _ (fun k => exp_nonneg _)]
  exact Finset.sum_congr rfl fun k _ => exp_shift (hf k) hmg

/-! ## The maximum -/

/-- The maximum of a family of extended reals; `⊥` of the empty one. -/
def rowMax {n : ℕ} (f : Fin n → EReal) : EReal := Finset.univ.fold max ⊥ f

/-- The maximum bounds every entry. -/
theorem le_rowMax {n : ℕ} (f : Fin n → EReal) (k : Fin n) : f k ≤ rowMax f :=
  Finset.le_fold_max (f k) |>.2 (Or.inr ⟨k, Finset.mem_univ k, le_refl _⟩)

/-- What bounds every entry bounds the maximum. -/
theorem rowMax_le {n : ℕ} (f : Fin n → EReal) {b : EReal} (h : ∀ k, f k ≤ b) : rowMax f ≤ b :=
  (Finset.fold_max_le b).2 ⟨bot_le, fun k _ => h k⟩

/-- The word the programs start their maxima from is minus infinity. -/
theorem ofBits_negInf : Ideal.ofBits .f32 0xFF800000#32 = ⊥ := by simp [Ideal.ofBits, Ideal.ieee]

/-! ## The two halves of a row -/

/-- Half `z` of a row: its columns `4096 z + k`. -/
def half (l : Fin 8192 → EReal) (z : Fin 2) (k : Fin 4096) : EReal :=
  l ⟨z.val * 4096 + k.val, by have := z.isLt; have := k.isLt; omega⟩

/-- A sum over the row is the sum over the first half and the sum over the second. -/
theorem sum_halves (l : Fin 8192 → EReal) : ∑ j, l j = ∑ k, half l 0 k + ∑ k, half l 1 k := by
  rw [Fin.sum_univ_two_halves 4096 4096 rfl l]
  refine congrArg₂ (· + ·) (Finset.sum_congr rfl fun k _ => congrArg l (Fin.ext ?_)) (Finset.sum_congr rfl fun k _ => congrArg l (Fin.ext ?_))
  · show k.val = 0 * 4096 + k.val
    omega
  · show 4096 + k.val = 1 * 4096 + k.val
    omega

/-- Each entry of the row lies in one of the halves. -/
theorem mem_half (l : Fin 8192 → EReal) (j : Fin 8192) : ∃ z k, l j = half l z k := by
  refine ⟨⟨j.val / 4096, by have := j.isLt; omega⟩, ⟨j.val % 4096, Nat.mod_lt _ (by omega)⟩, congrArg l (Fin.ext ?_)⟩
  show j.val = j.val / 4096 * 4096 + j.val % 4096
  omega

/-- The maximum of the row is the greater of the maxima of its halves. -/
theorem rowMax_halves (l : Fin 8192 → EReal) : rowMax l = max (rowMax (half l 0)) (rowMax (half l 1)) := by
  apply le_antisymm
  · refine rowMax_le l fun j => ?_
    obtain ⟨z, k, e⟩ := mem_half l j
    rw [e]
    rcases (by omega : z = 0 ∨ z = 1) with rfl | rfl
    · exact (le_rowMax _ k).trans (le_max_left _ _)
    · exact (le_rowMax _ k).trans (le_max_right _ _)
  · exact max_le (rowMax_le _ fun k => le_rowMax l _) (rowMax_le _ fun k => le_rowMax l _)

/-! ## The label's entry -/

/-- The sum over half `z` of the entries whose column is `L`: the entry at column `L` or nothing. -/
def pick (l : Fin 8192 → EReal) (L : ℕ) (z : Fin 2) : EReal :=
  ∑ k : Fin 4096, if z.val * 4096 + k.val = L then half l z k else 0

/-- The two halves' sums together are the entry at column `L`. -/
theorem pick_halves (l : Fin 8192 → EReal) (L : Fin 8192) : pick l L.val 0 + pick l L.val 1 = l L := by
  have h := sum_halves fun j => if j.val = L.val then l j else 0
  have e : (∑ j, if j.val = L.val then l j else 0) = l L := by
    rw [Finset.sum_eq_single L (fun j _ hj => if_neg fun h => hj (Fin.ext h)) (fun h => absurd (Finset.mem_univ L) h), if_pos rfl]
  exact h.symm.trans e

/-! ## The loss -/

/-- The loss of a row at label `L`: the log-sum-exp of the row, shifted by its maximum, less the label's entry. -/
def loss (l : Fin 8192 → EReal) (L : Fin 8192) : EReal :=
  rowMax l + Ideal.log (∑ j, Ideal.exp (l j - rowMax l)) - l L

/-- What the device that holds half `z` computes from its own three numbers (the maximum, the sum of exponentials, the
    label's entry) and those of the half `z'`. -/
def joined (l : Fin 8192 → EReal) (L : ℕ) (z z' : Fin 2) : EReal :=
  max (rowMax (half l z)) (rowMax (half l z'))
      + Ideal.log ((∑ k, Ideal.exp (half l z k - rowMax (half l z))) * Ideal.exp (rowMax (half l z) - max (rowMax (half l z)) (rowMax (half l z')))
        + (∑ k, Ideal.exp (half l z' k - rowMax (half l z'))) * Ideal.exp (rowMax (half l z') - max (rowMax (half l z)) (rowMax (half l z'))))
    - (pick l L z + pick l L z')

/-- It does not matter which half is one's own. -/
theorem joined_comm (l : Fin 8192 → EReal) (L : ℕ) (z z' : Fin 2) : joined l L z z' = joined l L z' z := by
  unfold joined
  rw [max_comm (rowMax (half l z')) (rowMax (half l z)), add_comm (pick l L z') (pick l L z),
    add_comm ((∑ k, Ideal.exp (half l z' k - rowMax (half l z'))) * _)]

/-- From the first half joined with the second comes the loss of the row. -/
theorem joined_zero_one (l : Fin 8192 → EReal) (L : Fin 8192) : joined l L.val 0 1 = loss l L := by
  have h0 : rowMax (half l 0) ≤ rowMax l := by rw [rowMax_halves]; exact le_max_left _ _
  have h1 : rowMax (half l 1) ≤ rowMax l := by rw [rowMax_halves]; exact le_max_right _ _
  unfold joined loss
  rw [pick_halves, ← rowMax_halves, sum_shift (half l 0) (le_rowMax _) h0, sum_shift (half l 1) (le_rowMax _) h1,
    sum_halves fun j => Ideal.exp (l j - rowMax l)]
  rfl

/-- Either half joined with the other gives the loss of the row. -/
theorem joined_eq_loss (l : Fin 8192 → EReal) (L : Fin 8192) {z z' : Fin 2} (h : z ≠ z') : joined l L.val z z' = loss l L := by
  rcases (by omega : (z = 0 ∧ z' = 1) ∨ (z = 1 ∧ z' = 0)) with ⟨rfl, rfl⟩ | ⟨rfl, rfl⟩
  · exact joined_zero_one l L
  · rw [joined_comm]; exact joined_zero_one l L

/-! ## The row of logits -/

/-- Row `i` of the product of `x` and `W`, both whole: the logits of row `i`. -/
def row (x : (⟨2, ![256, 512]⟩ : Shape).Idx → EReal) (W : (⟨2, ![512, 8192]⟩ : Shape).Idx → EReal) (i : Fin 256)
    (j : Fin 8192) : EReal :=
  ∑ k : Fin 512, x (ix2 i k) * W (ix2 k j)

/-- `w` is half `z` of the columns of `W`. -/
def IsHalf (z : Fin 2) (w : (⟨2, ![512, 4096]⟩ : Shape).Idx → EReal) (W : (⟨2, ![512, 8192]⟩ : Shape).Idx → EReal) : Prop :=
  ∀ (k : Fin 512) (j : Fin 4096), w (ix2 k j) = W (ix2 k ⟨z.val * 4096 + j.val, by have := z.isLt; have := j.isLt; omega⟩)

end Cert.LogSumExp

end
-- ==== Proof.KernelIdealValue.lean ====
/-
# What the kernel computes, row by row

The values the kernel's body computes from its blocks, read at a row `i`, over the extended reals: the logits of device
`c` are half `c % 2` of the whole row of logits, its maximum and its sum of exponentials are those of that half, and its
sum of selected logits is the label's entry if the label's column lies in that half. What the device writes is then
`joined` of its half and its mate's, which is the loss.
-/
module

public import proofs.«01_k».proof.Proof.KernelIdealLaunch
public import proofs.«01_k».proof.Proof.LogSumExp
public import Idealize.ShloMosaic.Lib.Pointwise

@[expose] public section

set_option maxRecDepth 16384

noncomputable section

namespace Cert.KernelIdeal.Swap

open Cert.KernelIdeal Cert.KernelIdeal.Gen Cert.LogSumExp

open Idealize.ShloMosaic

/-- The half of the columns device `c` holds: its place on the last mesh axis. -/
def side (c : Dev nD) : Fin 2 := ⟨c.val % 2, Nat.mod_lt _ (by decide)⟩

/-- Partners hold different halves. -/
theorem side_mate (c : Dev nD) : side c ≠ side (mate c) := by revert c; decide

/-- The block of `W` that the mesh gives device `c` is the half of its side. -/
theorem isHalf_block (c : Dev nD) (W : (⟨2, ![512, 8192]⟩ : Shape).Idx → EReal) :
    IsHalf (side c) (Layout.blockN ⟨2, ![512, 4096]⟩ ⟨2, ![512, 8192]⟩ (Layout.meshBlock [2, 2, 2] ![[], [2]] c) W) W := by
  intro k j
  rw [Layout.blockN_apply]
  refine congrArg W (funext fun a => Fin.ext ?_)
  rw [Layout.TilesN.idx_val]
  revert a
  refine Fin.forall_fin_two.2 ⟨?_, ?_⟩
  · show 0 * 512 + k.val = k.val
    omega
  · show ((Layout.meshBlock [2, 2, 2] ![[], [2]] c) 1).val * 4096 + j.val = c.val % 2 * 4096 + j.val
    have e : ∀ c : Dev nD, ((Layout.meshBlock [2, 2, 2] (![[], [2]] : Fin 2 → List Nat) c) 1).val = c.val % 2 := by decide
    rw [e]

/-- The column number the kernel subtracts from the labels is where its half begins. -/
theorem offset_word (c : Dev nD) :
    Scalar.muli (Scalar.remsi (Scalar.divsi (Dev.word c) 1#32) 2#32) 4096#32 = BitVec.ofNat 32 ((side c).val * 4096) := by
  revert c; decide

/-- Column `k` of half `z` is the label's, as words: the test the kernel makes. -/
theorem column_test (z : Fin 2) (k : Fin 4096) (L : BitVec 32) :
    BitVec.ofNat 32 k.val = IntOp.subi L (BitVec.ofNat 32 (z.val * 4096)) ↔ z.val * 4096 + k.val = L.toNat := by
  have hz := z.isLt
  have hk := k.isLt
  have hL := L.isLt
  show BitVec.ofNat 32 k.val = L - BitVec.ofNat 32 (z.val * 4096) ↔ _
  rw [← BitVec.toNat_inj, BitVec.toNat_sub, BitVec.toNat_ofNat, BitVec.toNat_ofNat]
  omega

section Payloads

variable {x : Vec Ideal S256x512 .bf16} {w : Vec Ideal S512x4096 .bf16} {W : (⟨2, ![512, 8192]⟩ : Shape).Idx → EReal}
  {z : Fin 2} (hw : IsHalf z w W) (i : Fin 256)

include hw

/-- The block's logits are the half's. -/
theorem logits_apply (j : Fin 4096) : k0_pay2 x w (ix2 i j) = half (row x W i) z j := by
  pointwise [k0_pay2]
  unfold half row
  exact Finset.sum_congr rfl fun k _ => by rw [hw k j]

/-- The block's row maximum is the half's. -/
theorem max_apply : k0_pay3 x w (ix1 i) = rowMax (half (row x W i) z) := by
  pointwise [k0_pay3]
  unfold rowMax
  exact congrArg₂ (fun b f => Finset.fold max b f Finset.univ) ofBits_negInf (funext fun j => logits_apply hw i j)

/-- The block's sum of exponentials is the half's. -/
theorem sum_apply : k0_pay4 x w (ix1 i) = ∑ k, Ideal.exp (half (row x W i) z k - rowMax (half (row x W i) z)) := by
  pointwise [k0_pay4]
  exact Finset.sum_congr rfl fun j _ => by rw [logits_apply hw i j, max_apply hw i]

omit hw in
/-- The block's sum of selected logits is the label's entry, if the label's column lies in the half. -/
theorem pick_apply (c : Dev nD) (hw : IsHalf (side c) w W) (lab : Vec Ideal S256 .i32) :
    pickOf c x w lab (ix1 i) = pick (row x W i) (lab (ix1 i)).toNat (side c) := by
  unfold pickOf
  pointwise [k0_pay6, k0_pay5]
  unfold pick
  refine Finset.sum_congr rfl fun k _ => ?_
  rw [offset_word, logits_apply hw i k]
  by_cases h : (side c).val * 4096 + k.val = (lab (ix1 i)).toNat
  · rw [if_pos h, (column_test _ _ _).2 h]
    unfold IntOp.cmpi Scalar.select
    simp
  · rw [if_neg h]
    have h' := beq_eq_false_iff_ne.2 fun e => h ((column_test (side c) k (lab (ix1 i))).1 e)
    unfold IntOp.cmpi Scalar.select
    simp [h']

end Payloads

/-- The last step of the kernel at a row: from its own three numbers and the mate's. -/
theorem final_apply (v22 v27 v39 w22 w27 : FVec Ideal S256 .f32) (v21 : FVec Ideal S256x4096 .f32) (v32 : IVec S256 32)
    (v33 : IVec S256x4096 32) (i : Fin 256) :
    k0_pay1 v22 v27 v39 (k0_pay7 w22) (k0_pay8 w27) (k0_pay9 v21 v32 v33) (ix1 i)
      = max (v22 (ix1 i)) (w22 (ix1 i))
          + Ideal.log (v27 (ix1 i) * Ideal.exp (v22 (ix1 i) - max (v22 (ix1 i)) (w22 (ix1 i)))
            + w27 (ix1 i) * Ideal.exp (w22 (ix1 i) - max (v22 (ix1 i)) (w22 (ix1 i))))
        - (v39 (ix1 i) + k0_pay6 v21 v32 v33 (ix1 i)) := by
  pointwise [k0_pay1, k0_pay7, k0_pay8, k0_pay9]

/-- What the kernel writes on device `c` at row `i` is the loss of that row of the whole product at the row's label: the
    device and its mate hold `x` and the labels alike and the two halves of the columns of `W`. -/
theorem outOf_apply (m : (ℓ : Loc nD τ sig) → Buf (Elt Ideal) ℓ) (ρ : Dev nD → PrngReg)
    (x : (⟨2, ![256, 512]⟩ : Shape).Idx → EReal) (W : (⟨2, ![512, 8192]⟩ : Shape).Idx → EReal)
    (lab : (⟨1, ![256]⟩ : Shape).Idx → BitVec 32) (hx : ∀ c, xOf m ρ c = x) (hW : ∀ c, IsHalf (side c) (wOf m ρ c) W)
    (hlab : ∀ c, labOf m ρ c = lab) (c : Dev nD) (i : Fin 256) (L : Fin 8192) (hL : (lab (ix1 i)).toNat = L.val) :
    outOf m ρ c (ix1 i) = loss (row x W i) L := by
  rw [← joined_eq_loss (row x W i) L (side_mate c), ← hL]
  unfold outOf
  refine (final_apply _ _ _ _ _ _ _ _ i).trans ?_
  have p := pick_apply (x := xOf m ρ c) i c (hW c) (labOf m ρ c)
  have p' := pick_apply (x := xOf m ρ (mate c)) i (mate c) (hW (mate c)) (labOf m ρ (mate c))
  unfold pickOf at p'
  rw [max_apply (hW c) i, max_apply (hW (mate c)) i, sum_apply (hW c) i, sum_apply (hW (mate c)) i, p, p', hx, hx, hlab, hlab]
  rfl

end Cert.KernelIdeal.Swap

end
-- ==== Proof.ReferenceIdealValue.lean ====
/-
# What the reference computes, row by row

The reference's result read at a row `i`, over the extended reals, where the row's label is a column number: the loss of
row `i` of the product at the label.
-/
module

public import proofs.«01_k».proof.Proof.Gen.ReferenceIdeal.Run
public import proofs.«01_k».proof.Proof.LogSumExp
public import Idealize.ShloMosaic.Lib.Pointwise
public import Idealize.ShloMosaic.Lib.StableHlo.Predicate

@[expose] public section

set_option maxRecDepth 16384

noncomputable section

namespace Cert.ReferenceIdeal.Loss

open Cert.ReferenceIdeal Cert.ReferenceIdeal.Gen Cert.LogSumExp

open Idealize.ShloMosaic

variable (x : FVec Ideal S256x512 .bf16) (W : FVec Ideal S512x8192 .bf16) (lab : IVec S256 32)

/-- The reference's logits. -/
def logits : FVec Ideal S256x8192 .f32 := Host.dotGeneral dot_S256x512_S512x8192_S256x8192_1_0_0_1_n_n none x W

/-- The reference's row maxima. -/
def maxima : FVec Ideal S256 .f32 :=
  Host.reduce FloatOps.maximumf (logits x W) (constant (F := Ideal) S_ .f32 0xFF800000#32) reducesTo_S256x8192_S256_d1 h_S_

/-- The reference's exponentials of the logits, each row's maximum taken off. -/
def shifted : FVec Ideal S256x8192 .f32 :=
  Host.exp (subf (logits x W)
    (broadcastInDim S256x8192 ![0, 1] bcast_S256x1_S256x8192_0_1 (broadcastInDim S256x1 ![0] bcast_S256_S256x1_0 (maxima x W))))

/-- The reference's row sums of a rectangle. -/
def sums (e : FVec Ideal S256x8192 .f32) : FVec Ideal S256 .f32 :=
  Host.reduceAdd e (constant (F := Ideal) S_ .f32 0x00000000#32) reducesTo_S256x8192_S256_d1 h_S_

/-- The reference's log-sum-exp, kept as a column. -/
def lse : FVec Ideal S256x1 .f32 :=
  addf (broadcastInDim S256x1 ![0] bcast_S256_S256x1_0 (maxima x W))
    (Host.log (broadcastInDim S256x1 ![0] bcast_S256_S256x1_0 (sums (shifted x W))))

/-- An index vector as the reference spells it: negative entries counted from the end of an axis of `n`. -/
def wrapped (v : IVec S256 32) (n : BitVec 32) : IVec S256 32 :=
  select (cmpi .slt v (broadcastInDim S256 ![] bcast_S_S256 (constantI S_ 32 0#32)))
    (addi v (broadcastInDim S256 ![] bcast_S_S256 (constantI S_ 32 n))) v

/-- The table of the rows and columns the reference picks. -/
def table : IVec S256x2 32 :=
  concatenate S256x2 1 [⟨S256x1, broadcastInDim S256x1 ![0] bcast_S256_S256x1_0 (wrapped (iotaInDim S256 32 0) 256#32)⟩,
    ⟨S256x1, broadcastInDim S256x1 ![0] bcast_S256_S256x1_0 (wrapped lab 8192#32)⟩] concatenates_S256x1_S256x1_S256x2_d1

/-- The logits picked. -/
def picked : FVec Ideal S256 .f32 := Host.gather gather_S256x8192_S256x2_S256_n_01_n_n_01_1_11 (logits x W) (table lab)

/-- The reference's result. -/
def result : FVec Ideal S256 .f32 := subf (shapeCast S256 (lse x W) shapeCasts_S256x1_S256) (picked x W lab)

/-! ## The logits, the maxima, the log-sum-exp -/

/-- The reference's logits at row `i` and column `j`. -/
theorem logits_apply (i : Fin 256) (j : Fin 8192) : logits x W (ix2 i j) = row x W i j := by
  pointwise [logits]
  rfl

/-- The reference's maximum of row `i`. -/
theorem maxima_apply (i : Fin 256) : maxima x W (ix1 i) = rowMax (row x W i) := by
  pointwise [maxima]
  unfold rowMax
  exact congrArg₂ (fun b f => Finset.fold max b f Finset.univ) ofBits_negInf (funext fun j => logits_apply x W i j)

/-- The reference's exponential at row `i` and column `j`. -/
theorem shifted_apply (i : Fin 256) (j : Fin 8192) :
    shifted x W (ix2 i j) = Ideal.exp (row x W i j - rowMax (row x W i)) := by
  pointwise [shifted]
  rw [logits_apply, maxima_apply]

/-- The sum of row `i` of a rectangle. -/
theorem sums_apply (e : FVec Ideal S256x8192 .f32) (i : Fin 256) : sums e (ix1 i) = ∑ j, e (ix2 i j) := by
  pointwise [sums]

/-- A column added to the logarithm of another, read at row `i`. -/
theorem column_apply (a b : FVec Ideal S256 .f32) (i : Fin 256) :
    addf (broadcastInDim S256x1 ![0] bcast_S256_S256x1_0 a) (Host.log (broadcastInDim S256x1 ![0] bcast_S256_S256x1_0 b))
        (ix2 i (0 : Fin 1))
      = a (ix1 i) + Ideal.log (b (ix1 i)) := by
  pointwise

/-- The reference's log-sum-exp of row `i`. -/
theorem lse_apply (i : Fin 256) :
    lse x W (ix2 i (0 : Fin 1)) = rowMax (row x W i) + Ideal.log (∑ j, Ideal.exp (row x W i j - rowMax (row x W i))) := by
  refine (column_apply (maxima x W) (sums (shifted x W)) i).trans ?_
  rw [maxima_apply, sums_apply]
  simp only [shifted_apply]

/-! ## The entry picked -/

/-- An index that is not negative is left as it is. -/
theorem wrapped_apply (v : IVec S256 32) (n : BitVec 32) (i : Fin 256) (h : (v (ix1 i)).toNat < 2 ^ 31) :
    wrapped v n (ix1 i) = v (ix1 i) := by
  pointwise [wrapped]
  generalize v (ix1 i) = b at h ⊢
  have hb : BitVec.slt b 0#32 = false := by
    rw [BitVec.slt_eq_decide, decide_eq_false_iff_not, BitVec.toInt_eq_toNat_cond, BitVec.toInt_zero]
    omega
  unfold IntOp.cmpi Scalar.select
  simp [hb]

/-- The table names row `i` in its first column, -/
theorem table_row (i : Fin 256) : table lab (ix2 i (0 : Fin 2)) = BitVec.ofNat 32 i.val := by
  pointwise [table]
  have h : ((iotaInDim S256 32 0) (ix1 i) : BitVec 32) = BitVec.ofNat 32 i.val := by pointwise
  rw [wrapped_apply _ _ i (by rw [h, BitVec.toNat_ofNat]; have := i.isLt; omega), h]

/-- and the row's label in its second. -/
theorem table_col (i : Fin 256) (h : (lab (ix1 i)).toNat < 8192) : table lab (ix2 i (1 : Fin 2)) = lab (ix1 i) := by
  pointwise [table]
  exact wrapped_apply lab _ i (by omega)

/-- Where the table names row `r` and column `q` of an array, that entry is picked. -/
theorem gather_apply (v : FVec Ideal S256x8192 .f32) (t : IVec S256x2 32) (i r : Fin 256) (q : Fin 8192)
    (hr : (t (ix2 i (0 : Fin 2))).toInt.toNat = r.val) (hq : (t (ix2 i (1 : Fin 2))).toInt.toNat = q.val) :
    Host.gather gather_S256x8192_S256x2_S256_n_01_n_n_01_1_11 v t (ix1 i) = v (ix2 r q) := by
  unfold Host.gather
  refine congrArg v (funext fun a => Fin.ext ?_)
  show GatherDims.start _ (ix1 i) t a + GatherDims.batchCoord _ (ix1 i) a + GatherDims.offCoord _ (ix1 i) a = _
  rw [GatherDims.batchCoord_eq_zero _ _ _ (List.not_mem_nil), GatherDims.offCoord_eq_zero _ _ _ (by revert a; decide)]
  unfold GatherDims.start
  have hm : a ∈ gather_S256x8192_S256x2_S256_n_01_n_n_01_1_11.startIndexMap := by revert a; decide
  rw [dif_pos hm]
  revert a
  refine Fin.forall_fin_two.2 ⟨fun _ => ?_, fun _ => ?_⟩
  · have e : gather_S256x8192_S256x2_S256_n_01_n_n_01_1_11.siIdx (ix1 i) ⟨0, by decide⟩ = ix2 i (0 : Fin 2) := by
      funext b; revert b; exact Fin.forall_fin_two.2 ⟨rfl, rfl⟩
    show min (t (gather_S256x8192_S256x2_S256_n_01_n_n_01_1_11.siIdx (ix1 i) ⟨0, _⟩)).toInt.toNat (256 - 1) = r.val
    rw [e, hr]
    have := r.isLt
    omega
  · have e : gather_S256x8192_S256x2_S256_n_01_n_n_01_1_11.siIdx (ix1 i) ⟨1, by decide⟩ = ix2 i (1 : Fin 2) := by
      funext b; revert b; exact Fin.forall_fin_two.2 ⟨rfl, rfl⟩
    show min (t (gather_S256x8192_S256x2_S256_n_01_n_n_01_1_11.siIdx (ix1 i) ⟨1, _⟩)).toInt.toNat (8192 - 1) = q.val
    rw [e, hq]
    have := q.isLt
    omega

/-- A word below `2 ^ 31`, read signed, is the number it holds. -/
theorem toInt_small (b : BitVec 32) (h : b.toNat < 2 ^ 31) : b.toInt.toNat = b.toNat := by
  rw [BitVec.toInt_eq_toNat_cond]
  omega

/-- The entry picked for row `i` is the one at the row's label. -/
theorem picked_apply (i : Fin 256) (L : Fin 8192) (hL : (lab (ix1 i)).toNat = L.val) :
    picked x W lab (ix1 i) = row x W i L := by
  have hlt : (lab (ix1 i)).toNat < 8192 := by rw [hL]; exact L.isLt
  have hi := i.isLt
  unfold picked
  rw [gather_apply (logits x W) (table lab) i i L, logits_apply]
  · rw [table_row, toInt_small _ (by rw [BitVec.toNat_ofNat]; omega), BitVec.toNat_ofNat]
    omega
  · rw [table_col lab i hlt, toInt_small _ (by omega), hL]

/-! ## The result -/

/-- A column less a vector, read at row `i`. -/
theorem less_apply (a : FVec Ideal S256x1 .f32) (b : FVec Ideal S256 .f32) (i : Fin 256) :
    subf (shapeCast S256 a shapeCasts_S256x1_S256) b (ix1 i) = a (ix2 i (0 : Fin 1)) - b (ix1 i) := by
  pointwise

/-- The reference's result at row `i` is the loss of row `i` of the product at the row's label. -/
theorem result_apply (i : Fin 256) (L : Fin 8192) (hL : (lab (ix1 i)).toNat = L.val) :
    result x W lab (ix1 i) = loss (row x W i) L := by
  refine (less_apply (lse x W) (picked x W lab) i).trans ?_
  rw [lse_apply, picked_apply x W lab i L hL]
  rfl

end Cert.ReferenceIdeal.Loss

end
-- ==== Proof.Labels.lean ====
/-
# What the precondition says

`labels_in_range` asks, element by element, that a label is at least `0` and less than `8192`, read signed: the label,
read as a natural number, is then a column number.
-/
module

public import proofs.«01_k».proof.Proof.Gen.Pre_labels_in_range_KernelIdeal
public import Idealize.ShloMosaic.Lib.Pointwise

@[expose] public section

noncomputable section

namespace Cert.Labels

open Idealize.ShloMosaic
open Cert.Pre_labels_in_range_KernelIdeal Cert.Pre_labels_in_range_KernelIdeal.Gen

/-- A word that is signed at least `0` and less than `8192` holds a number less than `8192`. -/
theorem word_lt (b : BitVec 32) (h : IntOp.andi (IntOp.cmpi .sge b 0#32) (IntOp.cmpi .slt b 8192#32) = 1#1) : b.toNat < 8192 := by
  have hb := b.isLt
  by_contra hn
  have e : BitVec.sle 0#32 b = false ∨ BitVec.slt b 8192#32 = false := by
    rw [BitVec.sle_eq_decide, BitVec.slt_eq_decide, decide_eq_false_iff_not, decide_eq_false_iff_not,
      BitVec.toInt_eq_toNat_cond b]
    have e0 : (0#32 : BitVec 32).toInt = 0 := by decide
    have e1 : (8192#32 : BitVec 32).toInt = 8192 := by decide
    rw [e0, e1]
    omega
  unfold IntOp.andi IntOp.cmpi at h
  rcases e with e | e <;> simp [e] at h

/-- Under the precondition every label is a column number. -/
theorem label_lt (x : FVec Ideal S256x512 .bf16) (w : FVec Ideal S512x4096 .bf16) (lab : IVec S256 32)
    (h : fn x w lab = fun _ => 1#1) (i : Fin 256) : (lab (ix1 i)).toNat < 8192 := by
  have h' := congrFun h (ix1 i)
  pointwise [fn] at h'
  exact word_lt _ h'

end Cert.Labels

end
-- ==== Proof.lean ====
/-
# The claims, put together

The kernel and its ideal twin run to the end on all eight devices with the arguments unchanged and every semaphore at
zero (the launch modules); so does the reference, which has no semaphores. Where every label is a column number, what
every device writes is the reference's result: both are, row by row, the loss of the row of the whole product.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Gen.Pre_labels_in_range_KernelIdeal
public import proofs.«01_k».proof.Proof.Gen.Pre_labels_in_range_ReferenceIdeal
public import proofs.«01_k».proof.Proof.KernelLaunch
public import proofs.«01_k».proof.Proof.KernelIdealValue
public import proofs.«01_k».proof.Proof.ReferenceIdealValue
public import proofs.«01_k».proof.Proof.Labels
public import Idealize.ShloMosaic.Adequacy
public import Idealize.ShloMosaic.Init
public import Idealize.ShloMosaic.Lib.Quiescent

@[expose] public section

noncomputable section

namespace Cert.Proof

open Idealize.ShloMosaic Idealize.SL.Sem Cert.LogSumExp

/-- The kernel runs, leaves its arguments as they were and every semaphore at zero. -/
theorem frame_kernel : quiescent_Kernel (hKernel := Cert.Kernel.Gen.facts) := fun m g _ =>
  (θ_run Cert.Kernel.defs _ _).mono (fun _ h => ⟨fun c => (h.1 c).2, h.2⟩) (Cert.Kernel.Swap.run_arrays m g)

/-- So does its ideal twin. -/
theorem frame_ideal : quiescent_KernelIdeal (hKernelIdeal := Cert.KernelIdeal.Gen.facts) := fun m g _ =>
  (θ_run Cert.KernelIdeal.defs _ _).mono (fun _ h => ⟨fun c => (h.1 c).2, h.2⟩) (Cert.KernelIdeal.Swap.run_arrays m g)

/-- So does the reference. -/
theorem frame_reference : quiescent_ReferenceIdeal (hReferenceIdeal := Cert.ReferenceIdeal.Gen.facts) := fun m g _ =>
  (θ_run Cert.ReferenceIdeal.defs _ _).mono
    (fun r h => ⟨fun c => (h c).2, sem_eq_zero_of_no_sems (by decide) r.2⟩) (Cert.ReferenceIdeal.Value.run (F := Ideal) m g)

/-- On every device the kernel's result is the reference's, where each device has its part of the reference's arguments
    and every label is a column number. -/
theorem same_result
    (m : (ℓ : Loc Cert.KernelIdeal.nD Cert.KernelIdeal.τ Cert.KernelIdeal.sig) → Buf (Elt Ideal) ℓ) (g : Dev Cert.KernelIdeal.nD → PrngReg)
    (x : FVec Ideal Cert.ReferenceIdeal.S256x512 .bf16) (W : FVec Ideal Cert.ReferenceIdeal.S512x8192 .bf16)
    (lab : IVec Cert.ReferenceIdeal.S256 32)
    (hx : ∀ c : Dev Cert.KernelIdeal.nD, m ((c.tc : Thread Cert.KernelIdeal.nD Cert.KernelIdeal.τ).loc Cert.KernelIdeal.main_arg0) = x)
    (hW : ∀ c : Dev Cert.KernelIdeal.nD, m ((c.tc : Thread Cert.KernelIdeal.nD Cert.KernelIdeal.τ).loc Cert.KernelIdeal.main_arg1)
      = Layout.blockN ⟨2, ![512, 4096]⟩ ⟨2, ![512, 8192]⟩ (Layout.meshBlock [2, 2, 2] ![[], [2]] c) W)
    (hlab : ∀ c : Dev Cert.KernelIdeal.nD, m ((c.tc : Thread Cert.KernelIdeal.nD Cert.KernelIdeal.τ).loc Cert.KernelIdeal.main_arg2) = lab)
    (hr : ∀ i : Fin 256, (lab (ix1 i)).toNat < 8192) (c : Dev Cert.KernelIdeal.nD) :
    Cert.KernelIdeal.Swap.outOf m g c = Cert.ReferenceIdeal.Loss.result x W lab := by
  funext j
  obtain ⟨i, rfl⟩ : ∃ i : Fin 256, j = ix1 i := ⟨j 0, eq_ix1 j⟩
  rw [Cert.ReferenceIdeal.Loss.result_apply x W lab i ⟨_, hr i⟩ rfl]
  refine Cert.KernelIdeal.Swap.outOf_apply m g x W lab (fun c => (Cert.KernelIdeal.Swap.xOf_eq m g c).trans (hx c)) (fun c => ?_)
    (fun c => (Cert.KernelIdeal.Swap.labOf_eq m g c).trans (hlab c)) c i ⟨_, hr i⟩ rfl
  rw [(Cert.KernelIdeal.Swap.wOf_eq m g c).trans (hW c)]
  exact Cert.KernelIdeal.Swap.isHalf_block c W

/-- The value claim: under the precondition both programs run and the kernel's result on every device is the
    reference's. -/
theorem value : algebraic_KernelIdeal_ReferenceIdeal_pre_labels_in_range_KernelIdeal (hKernelIdeal := Cert.KernelIdeal.Gen.facts)
    (hReferenceIdeal := Cert.ReferenceIdeal.Gen.facts)
    (hPre_labels_in_range_KernelIdeal := Cert.Pre_labels_in_range_KernelIdeal.Gen.facts) := by
  intro m g m' g' hpre hargs
  have hr : ∀ i : Fin 256, BitVec.toNat ((m' (((0 : Dev Cert.ReferenceIdeal.nD).tc : Thread Cert.ReferenceIdeal.nD Cert.ReferenceIdeal.τ).loc Cert.ReferenceIdeal.main_arg2) : IVec Cert.ReferenceIdeal.S256 32) (ix1 i)) < 8192 := by
    rw [← (hargs 0).2.2]
    exact Cert.Labels.label_lt _ _ _ (hpre 0)
  refine ⟨_, (θ_run Cert.KernelIdeal.defs _ _).mono (fun r h c => ⟨((h.1 c).1).trans
      (same_result m g _ _ _ (fun c => (hargs c).1) (fun c => (hargs c).2.1) (fun c => (hargs c).2.2) hr c), (h.1 c).2⟩)
      (Cert.KernelIdeal.Swap.run_arrays m g), ?_⟩
  exact (θ_run Cert.ReferenceIdeal.defs _ _).mono (fun r h => ⟨(h 0).1, (h 0).2⟩)
    (Cert.ReferenceIdeal.Value.run (F := Ideal) m' g')

/-- Everything claimed of the kernel. -/
theorem claim : Cert.Claim :=
  ⟨Cert.Kernel.Gen.facts, Cert.KernelIdeal.Gen.facts, Cert.ReferenceIdeal.Gen.facts, Cert.Pre_labels_in_range_KernelIdeal.Gen.facts,
    Cert.Pre_labels_in_range_ReferenceIdeal.Gen.facts, frame_kernel, frame_ideal, fun m g _ => frame_ideal m g trivial,
    frame_reference, fun m g _ => frame_reference m g trivial, trivial, value⟩

end Cert.Proof

end
